-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Repack (m : (ℓ : Loc Cert.Repack.nD Cert.Repack.τ Cert.Repack.sig) → Buf (Elt Bits) ℓ) : Prop :=
  True

def Pre_RepackIdeal (m : (ℓ : Loc Cert.RepackIdeal.nD Cert.RepackIdeal.τ Cert.RepackIdeal.sig) → Buf (Elt Ideal) ℓ) : Prop :=
  True

def Pre_RepackReferenceIdeal (m : (ℓ : Loc Cert.RepackReferenceIdeal.nD Cert.RepackReferenceIdeal.τ Cert.RepackReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Repack [hRepack : Cert.Repack.Facts] : Prop :=
  ∀ (m : (ℓ : Loc Cert.Repack.nD Cert.Repack.τ Cert.Repack.sig) → Buf (Elt Bits) ℓ) (g : Dev Cert.Repack.nD → PrngReg), Pre_Repack m →
    θ_run (Cert.Repack.defs (F := Bits)) (onTc (τ := Cert.Repack.τ) (Cert.Repack.main (F := Bits))) ⟨m, fun _ => 0, g⟩ (fun r => (∀ c : Dev Cert.Repack.nD,
      r.2.mem ((c.tc : Thread Cert.Repack.nD Cert.Repack.τ).loc Cert.Repack.main_arg0) = m ((c.tc : Thread Cert.Repack.nD Cert.Repack.τ).loc Cert.Repack.main_arg0)
      ∧ r.2.mem ((c.tc : Thread Cert.Repack.nD Cert.Repack.τ).loc Cert.Repack.main_arg1) = m ((c.tc : Thread Cert.Repack.nD Cert.Repack.τ).loc Cert.Repack.main_arg1))
      ∧ r.2.sem = fun _ => 0)

def quiescent_RepackIdeal [hRepackIdeal : Cert.RepackIdeal.Facts] : Prop :=
  ∀ (m : (ℓ : Loc Cert.RepackIdeal.nD Cert.RepackIdeal.τ Cert.RepackIdeal.sig) → Buf (Elt Ideal) ℓ) (g : Dev Cert.RepackIdeal.nD → PrngReg), Pre_RepackIdeal m →
    θ_run (Cert.RepackIdeal.defs (F := Ideal)) (onTc (τ := Cert.RepackIdeal.τ) (Cert.RepackIdeal.main (F := Ideal))) ⟨m, fun _ => 0, g⟩ (fun r => (∀ c : Dev Cert.RepackIdeal.nD,
      r.2.mem ((c.tc : Thread Cert.RepackIdeal.nD Cert.RepackIdeal.τ).loc Cert.RepackIdeal.main_arg0) = m ((c.tc : Thread Cert.RepackIdeal.nD Cert.RepackIdeal.τ).loc Cert.RepackIdeal.main_arg0)
      ∧ r.2.mem ((c.tc : Thread Cert.RepackIdeal.nD Cert.RepackIdeal.τ).loc Cert.RepackIdeal.main_arg1) = m ((c.tc : Thread Cert.RepackIdeal.nD Cert.RepackIdeal.τ).loc Cert.RepackIdeal.main_arg1))
      ∧ r.2.sem = fun _ => 0)

def quiescent_RepackReferenceIdeal [hRepackReferenceIdeal : Cert.RepackReferenceIdeal.Facts] : Prop :=
  ∀ (m : (ℓ : Loc Cert.RepackReferenceIdeal.nD Cert.RepackReferenceIdeal.τ Cert.RepackReferenceIdeal.sig) → Buf (Elt Ideal) ℓ) (g : Dev Cert.RepackReferenceIdeal.nD → PrngReg), Pre_RepackReferenceIdeal m →
    θ_run (Cert.RepackReferenceIdeal.defs (F := Ideal)) (onTc (τ := Cert.RepackReferenceIdeal.τ) (Cert.RepackReferenceIdeal.main (F := Ideal))) ⟨m, fun _ => 0, g⟩ (fun r => (∀ c : Dev Cert.RepackReferenceIdeal.nD,
      r.2.mem ((c.tc : Thread Cert.RepackReferenceIdeal.nD Cert.RepackReferenceIdeal.τ).loc Cert.RepackReferenceIdeal.main_arg0) = m ((c.tc : Thread Cert.RepackReferenceIdeal.nD Cert.RepackReferenceIdeal.τ).loc Cert.RepackReferenceIdeal.main_arg0)
      ∧ r.2.mem ((c.tc : Thread Cert.RepackReferenceIdeal.nD Cert.RepackReferenceIdeal.τ).loc Cert.RepackReferenceIdeal.main_arg1) = m ((c.tc : Thread Cert.RepackReferenceIdeal.nD Cert.RepackReferenceIdeal.τ).loc Cert.RepackReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Repack_RepackIdeal : Prop :=
  True

def algebraic_RepackIdeal_RepackReferenceIdeal [hRepackIdeal : Cert.RepackIdeal.Facts] [hRepackReferenceIdeal : Cert.RepackReferenceIdeal.Facts] : Prop :=
  ∀ (m : (ℓ : Loc Cert.RepackIdeal.nD Cert.RepackIdeal.τ Cert.RepackIdeal.sig) → Buf (Elt Ideal) ℓ) (g : Dev Cert.RepackIdeal.nD → PrngReg)
    (m' : (ℓ : Loc Cert.RepackReferenceIdeal.nD Cert.RepackReferenceIdeal.τ Cert.RepackReferenceIdeal.sig) → Buf (Elt Ideal) ℓ) (g' : Dev Cert.RepackReferenceIdeal.nD → PrngReg), Pre_RepackIdeal m →
    (∀ c : Dev Cert.RepackIdeal.nD,
      m' ((c.tc : Thread Cert.RepackReferenceIdeal.nD Cert.RepackReferenceIdeal.τ).loc Cert.RepackReferenceIdeal.main_arg0) = m ((c.tc : Thread Cert.RepackIdeal.nD Cert.RepackIdeal.τ).loc Cert.RepackIdeal.main_arg0)
      ∧ m' ((c.tc : Thread Cert.RepackReferenceIdeal.nD Cert.RepackReferenceIdeal.τ).loc Cert.RepackReferenceIdeal.main_arg1) = m ((c.tc : Thread Cert.RepackIdeal.nD Cert.RepackIdeal.τ).loc Cert.RepackIdeal.main_arg1)) →
    ∃ (v0 : (c : Dev Cert.RepackIdeal.nD) → Buf (Elt Ideal) ((c.tc : Thread Cert.RepackIdeal.nD Cert.RepackIdeal.τ).loc Cert.RepackIdeal.main_v1_0)) (v1 : (c : Dev Cert.RepackIdeal.nD) → Buf (Elt Ideal) ((c.tc : Thread Cert.RepackIdeal.nD Cert.RepackIdeal.τ).loc Cert.RepackIdeal.main_v1_1)),
      θ_run (Cert.RepackIdeal.defs (F := Ideal)) (onTc (τ := Cert.RepackIdeal.τ) (Cert.RepackIdeal.main (F := Ideal))) ⟨m, fun _ => 0, g⟩ (fun r => ∀ c : Dev Cert.RepackIdeal.nD,
          r.2.mem ((c.tc : Thread Cert.RepackIdeal.nD Cert.RepackIdeal.τ).loc Cert.RepackIdeal.main_v1_0) = v0 c
          ∧ r.2.mem ((c.tc : Thread Cert.RepackIdeal.nD Cert.RepackIdeal.τ).loc Cert.RepackIdeal.main_v1_1) = v1 c
          ∧ r.2.mem ((c.tc : Thread Cert.RepackIdeal.nD Cert.RepackIdeal.τ).loc Cert.RepackIdeal.main_arg0) = m ((c.tc : Thread Cert.RepackIdeal.nD Cert.RepackIdeal.τ).loc Cert.RepackIdeal.main_arg0)
          ∧ r.2.mem ((c.tc : Thread Cert.RepackIdeal.nD Cert.RepackIdeal.τ).loc Cert.RepackIdeal.main_arg1) = m ((c.tc : Thread Cert.RepackIdeal.nD Cert.RepackIdeal.τ).loc Cert.RepackIdeal.main_arg1))
      ∧ θ_run (Cert.RepackReferenceIdeal.defs (F := Ideal)) (onTc (τ := Cert.RepackReferenceIdeal.τ) (Cert.RepackReferenceIdeal.main (F := Ideal))) ⟨m', fun _ => 0, g'⟩ (fun r => ∀ c : Dev Cert.RepackReferenceIdeal.nD,
          r.2.mem ((c.tc : Thread Cert.RepackReferenceIdeal.nD Cert.RepackReferenceIdeal.τ).loc Cert.RepackReferenceIdeal.main_v6) = v0 c
          ∧ r.2.mem ((c.tc : Thread Cert.RepackReferenceIdeal.nD Cert.RepackReferenceIdeal.τ).loc Cert.RepackReferenceIdeal.main_v10) = v1 c
          ∧ r.2.mem ((c.tc : Thread Cert.RepackReferenceIdeal.nD Cert.RepackReferenceIdeal.τ).loc Cert.RepackReferenceIdeal.main_arg0) = m' ((c.tc : Thread Cert.RepackReferenceIdeal.nD Cert.RepackReferenceIdeal.τ).loc Cert.RepackReferenceIdeal.main_arg0)
          ∧ r.2.mem ((c.tc : Thread Cert.RepackReferenceIdeal.nD Cert.RepackReferenceIdeal.τ).loc Cert.RepackReferenceIdeal.main_arg1) = m' ((c.tc : Thread Cert.RepackReferenceIdeal.nD Cert.RepackReferenceIdeal.τ).loc Cert.RepackReferenceIdeal.main_arg1))

def Claim : Prop :=
  ∃ (hKernel : Cert.Kernel.Facts) (hKernelIdeal : Cert.KernelIdeal.Facts) (hReferenceIdeal : Cert.ReferenceIdeal.Facts) (hRepack : Cert.Repack.Facts) (hRepackIdeal : Cert.RepackIdeal.Facts) (hRepackReferenceIdeal : Cert.RepackReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Repack (hRepack := hRepack)
    ∧ quiescent_RepackIdeal (hRepackIdeal := hRepackIdeal)
    ∧ quiescent_RepackReferenceIdeal (hRepackReferenceIdeal := hRepackReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Repack_RepackIdeal
    ∧ algebraic_RepackIdeal_RepackReferenceIdeal (hRepackIdeal := hRepackIdeal) (hRepackReferenceIdeal := hRepackReferenceIdeal)
-- ==== Pre_finite.lean ====
abbrev S113246208 : Shape := ⟨1, ![113246208]⟩
abbrev S48x48x32x128 : Shape := ⟨4, ![48, 48, 32, 128]⟩
abbrev S6x3x8 : Shape := ⟨3, ![6, 3, 8]⟩
abbrev S6x6144x8x3x4x2 : Shape := ⟨6, ![6, 6144, 8, 3, 4, 2]⟩
abbrev S6x6144x8x3x4 : Shape := ⟨5, ![6, 6144, 8, 3, 4]⟩
abbrev S6x6144 : Shape := ⟨2, ![6, 6144]⟩
abbrev S_ : Shape := ⟨0, ![]⟩

class Facts : Prop where
  bcast_S_S48x48x32x128 : S_.BroadcastsInDim S48x48x32x128 (![] : Fin 0 → Fin S48x48x32x128.rank)
  reducesTo_S48x48x32x128_S_d0_1_2_3 : S48x48x32x128.ReducesTo [0, 1, 2, 3] S_
  h_S_ : 0 < S_.numel
  bcast_S_S6x6144 : S_.BroadcastsInDim S6x6144 (![] : Fin 0 → Fin S6x6144.rank)
  reducesTo_S6x6144_S_d0_1 : S6x6144.ReducesTo [0, 1] S_
  bcast_S_S113246208 : S_.BroadcastsInDim S113246208 (![] : Fin 0 → Fin S113246208.rank)
  reducesTo_S113246208_S_d0 : S113246208.ReducesTo [0] S_

variable [Facts]

def fn_part2 {F : FTy → Type} [FloatOps F] (main_v26 : IVec S_ 1) (main_v31 : IVec S_ 1) : IVec S_ 1 :=
  let main_v32 : IVec S_ 1 := andi main_v26 main_v31
  main_v32

def fn_part1 {F : FTy → Type} [FloatOps F] (main_arg0 : IVec S113246208 32) (main_v14 : IVec S_ 1) (main_v15 : IVec S113246208 32) : IVec S_ 1 :=
  let main_v16 : IVec S113246208 32 := andi main_arg0 main_v15
  let main_c_6 : IVec S_ 32 := constantI S_ 32 32512#32
  let main_v17 : IVec S113246208 32 := broadcastInDim S113246208 ![] bcast_S_S113246208 main_c_6
  let main_v18 : IVec S113246208 1 := cmpi .ne main_v16 main_v17
  let main_c_7 : IVec S_ 1 := constantI S_ 1 1#1
  let main_v19 : IVec S_ 1 := (fun x v => Host.reduce IntOp.andi x v reducesTo_S113246208_S_d0 h_S_) main_v18 main_c_7
  let main_v20 : IVec S_ 1 := andi main_v14 main_v19
  let main_c_8 : IVec S_ 32 := constantI S_ 32 8323072#32
  let main_v21 : IVec S113246208 32 := broadcastInDim S113246208 ![] bcast_S_S113246208 main_c_8
  let main_v22 : IVec S113246208 32 := andi main_arg0 main_v21
  let main_c_9 : IVec S_ 32 := constantI S_ 32 8323072#32
  let main_v23 : IVec S113246208 32 := broadcastInDim S113246208 ![] bcast_S_S113246208 main_c_9
  let main_v24 : IVec S113246208 1 := cmpi .ne main_v22 main_v23
  let main_c_10 : IVec S_ 1 := constantI S_ 1 1#1
  let main_v25 : IVec S_ 1 := (fun x v => Host.reduce IntOp.andi x v reducesTo_S113246208_S_d0 h_S_) main_v24 main_c_10
  let main_v26 : IVec S_ 1 := andi main_v20 main_v25
  let main_c_11 : IVec S_ 32 := constantI S_ 32 2130706432#32
  let main_v27 : IVec S113246208 32 := broadcastInDim S113246208 ![] bcast_S_S113246208 main_c_11
  let main_v28 : IVec S113246208 32 := andi main_arg0 main_v27
  let main_c_12 : IVec S_ 32 := constantI S_ 32 2130706432#32
  let main_v29 : IVec S113246208 32 := broadcastInDim S113246208 ![] bcast_S_S113246208 main_c_12
  let main_v30 : IVec S113246208 1 := cmpi .ne main_v28 main_v29
  let main_c_13 : IVec S_ 1 := constantI S_ 1 1#1
  let main_v31 : IVec S_ 1 := (fun x v => Host.reduce IntOp.andi x v reducesTo_S113246208_S_d0 h_S_) main_v30 main_c_13
  fn_part2 (F := F) main_v26 main_v31

def fn {F : FTy → Type} [FloatOps F] (main_arg0 : IVec S113246208 32) (main_arg1 : FVec F S48x48x32x128 .bf16) (main_arg2 : FVec F S6x3x8 .f32) (main_arg3 : FVec F S6x6144x8x3x4x2 .f32) (main_arg4 : FVec F S6x6144x8x3x4 .f32) (main_arg5 : FVec F S6x6144 .f32) : IVec S_ 1 :=
  let main_v0 : FVec F S48x48x32x128 .bf16 := Host.absf main_arg1
  let main_cst : FVec F S_ .bf16 := constant S_ .bf16 0x7F80#16
  let main_v1 : FVec F S48x48x32x128 .bf16 := broadcastInDim S48x48x32x128 ![] bcast_S_S48x48x32x128 main_cst
  let main_v2 : IVec S48x48x32x128 1 := cmpf .olt main_v0 main_v1
  let main_c : IVec S_ 1 := constantI S_ 1 1#1
  let main_v3 : IVec S_ 1 := (fun x v => Host.reduce IntOp.andi x v reducesTo_S48x48x32x128_S_d0_1_2_3 h_S_) main_v2 main_c
  let main_v4 : FVec F S6x6144 .f32 := Host.absf main_arg5
  let main_cst_0 : FVec F S_ .f32 := constant S_ .f32 0x7F800000#32
  let main_v5 : FVec F S6x6144 .f32 := broadcastInDim S6x6144 ![] bcast_S_S6x6144 main_cst_0
  let main_v6 : IVec S6x6144 1 := cmpf .olt main_v4 main_v5
  let main_c_1 : IVec S_ 1 := constantI S_ 1 1#1
  let main_v7 : IVec S_ 1 := (fun x v => Host.reduce IntOp.andi x v reducesTo_S6x6144_S_d0_1 h_S_) main_v6 main_c_1
  let main_v8 : IVec S_ 1 := andi main_v3 main_v7
  let main_c_2 : IVec S_ 32 := constantI S_ 32 127#32
  let main_v9 : IVec S113246208 32 := broadcastInDim S113246208 ![] bcast_S_S113246208 main_c_2
  let main_v10 : IVec S113246208 32 := andi main_arg0 main_v9
  let main_c_3 : IVec S_ 32 := constantI S_ 32 127#32
  let main_v11 : IVec S113246208 32 := broadcastInDim S113246208 ![] bcast_S_S113246208 main_c_3
  let main_v12 : IVec S113246208 1 := cmpi .ne main_v10 main_v11
  let main_c_4 : IVec S_ 1 := constantI S_ 1 1#1
  let main_v13 : IVec S_ 1 := (fun x v => Host.reduce IntOp.andi x v reducesTo_S113246208_S_d0 h_S_) main_v12 main_c_4
  let main_v14 : IVec S_ 1 := andi main_v8 main_v13
  let main_c_5 : IVec S_ 32 := constantI S_ 32 32512#32
  let main_v15 : IVec S113246208 32 := broadcastInDim S113246208 ![] bcast_S_S113246208 main_c_5
  fn_part1 (F := F) main_arg0 main_v14 main_v15
-- ==== Kernel.lean ====
abbrev S113246208 : Shape := ⟨1, ![113246208]⟩
abbrev S48x48x32x128 : Shape := ⟨4, ![48, 48, 32, 128]⟩
abbrev S6x3x8 : Shape := ⟨3, ![6, 3, 8]⟩
abbrev S6x6144x8x3x4x2 : Shape := ⟨6, ![6, 6144, 8, 3, 4, 2]⟩
abbrev S6x6144x8x3x4 : Shape := ⟨5, ![6, 6144, 8, 3, 4]⟩
abbrev S6x6144 : Shape := ⟨2, ![6, 6144]⟩
abbrev S6x8x3x4x2x6144 : Shape := ⟨6, ![6, 8, 3, 4, 2, 6144]⟩
abbrev S48x3x4x2x6144 : Shape := ⟨5, ![48, 3, 4, 2, 6144]⟩
abbrev S6x8x3x4x6144 : Shape := ⟨5, ![6, 8, 3, 4, 6144]⟩
abbrev S48x3x4x6144 : Shape := ⟨4, ![48, 3, 4, 6144]⟩
abbrev S288x1x128 : Shape := ⟨3, ![288, 1, 128]⟩
abbrev S48x8x48x48x128 : Shape := ⟨5, ![48, 8, 48, 48, 128]⟩
abbrev S6x8x3 : Shape := ⟨3, ![6, 8, 3]⟩
abbrev S48x3x1x1 : Shape := ⟨4, ![48, 3, 1, 1]⟩
abbrev S1x8x1x48x128 : Shape := ⟨5, ![1, 8, 1, 48, 128]⟩
abbrev S1x1x32x128 : Shape := ⟨4, ![1, 1, 32, 128]⟩
abbrev S1x3x4x2x128 : Shape := ⟨5, ![1, 3, 4, 2, 128]⟩
abbrev S1x3x4x128 : Shape := ⟨4, ![1, 3, 4, 128]⟩
abbrev S1x1x128 : Shape := ⟨3, ![1, 1, 128]⟩
abbrev S1x3x1x1 : Shape := ⟨4, ![1, 3, 1, 1]⟩
abbrev S48x192 : Shape := ⟨2, ![48, 192]⟩
abbrev S48x128 : Shape := ⟨2, ![48, 128]⟩
abbrev S1x1x1x48x128 : Shape := ⟨5, ![1, 1, 1, 48, 128]⟩
abbrev S192x128 : Shape := ⟨2, ![192, 128]⟩
abbrev S1x1x4x128 : Shape := ⟨4, ![1, 1, 4, 128]⟩
abbrev S4x128 : Shape := ⟨2, ![4, 128]⟩
abbrev S128 : Shape := ⟨1, ![128]⟩
abbrev S1x128 : Shape := ⟨2, ![1, 128]⟩
abbrev S1x1x4x1x128 : Shape := ⟨5, ![1, 1, 4, 1, 128]⟩
abbrev S1x1x1x1 : Shape := ⟨4, ![1, 1, 1, 1]⟩
abbrev S1x1 : Shape := ⟨2, ![1, 1]⟩

abbrev nBuf : Space → Nat
  | .hbm => 16
  | .vmem => 16
  | .smem => 0
  | _ => 0

abbrev bufTy : (tb : Table) → Fin (tcTables nBuf tb) → BufTy
  | .hbm, ⟨0, _⟩ => ⟨S113246208, .i32⟩
  | .hbm, ⟨1, _⟩ => ⟨S48x48x32x128, .bf16⟩
  | .hbm, ⟨2, _⟩ => ⟨S6x3x8, .f32⟩
  | .hbm, ⟨3, _⟩ => ⟨S6x6144x8x3x4x2, .f32⟩
  | .hbm, ⟨4, _⟩ => ⟨S6x6144x8x3x4, .f32⟩
  | .hbm, ⟨5, _⟩ => ⟨S6x6144, .f32⟩
  | .hbm, ⟨6, _⟩ => ⟨S6x8x3x4x2x6144, .f32⟩
  | .hbm, ⟨7, _⟩ => ⟨S48x3x4x2x6144, .f32⟩
  | .hbm, ⟨8, _⟩ => ⟨S6x8x3x4x6144, .f32⟩
  | .hbm, ⟨9, _⟩ => ⟨S48x3x4x6144, .f32⟩
  | .hbm, ⟨10, _⟩ => ⟨S288x1x128, .f32⟩
  | .hbm, ⟨11, _⟩ => ⟨S48x8x48x48x128, .i32⟩
  | .hbm, ⟨12, _⟩ => ⟨S6x8x3, .f32⟩
  | .hbm, ⟨13, _⟩ => ⟨S48x3x1x1, .f32⟩
  | .hbm, ⟨14, _⟩ => ⟨S48x3x4x2x6144, .f32⟩
  | .hbm, ⟨15, _⟩ => ⟨S48x3x4x6144, .f32⟩
  | .local _ .vmem, ⟨0, _⟩ => ⟨S1x8x1x48x128, .i32⟩
  | .local _ .vmem, ⟨1, _⟩ => ⟨S1x8x1x48x128, .i32⟩
  | .local _ .vmem, ⟨2, _⟩ => ⟨S1x1x32x128, .bf16⟩
  | .local _ .vmem, ⟨3, _⟩ => ⟨S1x1x32x128, .bf16⟩
  | .local _ .vmem, ⟨4, _⟩ => ⟨S1x3x4x2x128, .f32⟩
  | .local _ .vmem, ⟨5, _⟩ => ⟨S1x3x4x2x128, .f32⟩
  | .local _ .vmem, ⟨6, _⟩ => ⟨S1x3x4x128, .f32⟩
  | .local _ .vmem, ⟨7, _⟩ => ⟨S1x3x4x128, .f32⟩
  | .local _ .vmem, ⟨8, _⟩ => ⟨S1x1x128, .f32⟩
  | .local _ .vmem, ⟨9, _⟩ => ⟨S1x1x128, .f32⟩
  | .local _ .vmem, ⟨10, _⟩ => ⟨S1x3x1x1, .f32⟩
  | .local _ .vmem, ⟨11, _⟩ => ⟨S1x3x1x1, .f32⟩
  | .local _ .vmem, ⟨12, _⟩ => ⟨S1x3x4x2x128, .f32⟩
  | .local _ .vmem, ⟨13, _⟩ => ⟨S1x3x4x2x128, .f32⟩
  | .local _ .vmem, ⟨14, _⟩ => ⟨S1x3x4x128, .f32⟩
  | .local _ .vmem, ⟨15, _⟩ => ⟨S1x3x4x128, .f32⟩
  | _, _ => ⟨S113246208, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![48, 48], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c48_i32 : BitVec 32 := 48#32
  let v17 : BitVec 32 := Scalar.muli v16 c48_i32
  let v18 : BitVec 32 := Scalar.addi v17 arg1
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x8x1x48x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x4x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x4x2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S113246208 : Shape := ⟨1, ![113246208]⟩
abbrev S48x48x32x128 : Shape := ⟨4, ![48, 48, 32, 128]⟩
abbrev S6x3x8 : Shape := ⟨3, ![6, 3, 8]⟩
abbrev S6x6144x8x3x4x2 : Shape := ⟨6, ![6, 6144, 8, 3, 4, 2]⟩
abbrev S6x6144x8x3x4 : Shape := ⟨5, ![6, 6144, 8, 3, 4]⟩
abbrev S6x6144 : Shape := ⟨2, ![6, 6144]⟩
abbrev S884736x128 : Shape := ⟨2, ![884736, 128]⟩
abbrev S3538944x128 : Shape := ⟨2, ![3538944, 128]⟩
abbrev S6x8x8x48x4x3x4x4x128 : Shape := ⟨9, ![6, 8, 8, 48, 4, 3, 4, 4, 128]⟩
abbrev S6x48x128x8x3x4x4x8x4 : Shape := ⟨9, ![6, 48, 128, 8, 3, 4, 4, 8, 4]⟩
abbrev S6x6144x8x3x4x4x32 : Shape := ⟨7, ![6, 6144, 8, 3, 4, 4, 32]⟩
abbrev S6x8x48x32x128 : Shape := ⟨5, ![6, 8, 48, 32, 128]⟩
abbrev S6x48x128x8x32 : Shape := ⟨5, ![6, 48, 128, 8, 32]⟩
abbrev S6x6144x8x32 : Shape := ⟨4, ![6, 6144, 8, 32]⟩
abbrev S6x6144x1x1 : Shape := ⟨4, ![6, 6144, 1, 1]⟩
abbrev S_ : Shape := ⟨0, ![]⟩
abbrev S6x6144x8x3x4x1 : Shape := ⟨6, ![6, 6144, 8, 3, 4, 1]⟩
abbrev S6x6144x8x3x4x32 : Shape := ⟨6, ![6, 6144, 8, 3, 4, 32]⟩
abbrev S6x6144x8x3x4x1x32 : Shape := ⟨7, ![6, 6144, 8, 3, 4, 1, 32]⟩
abbrev S6x8x3 : Shape := ⟨3, ![6, 8, 3]⟩
abbrev S6x1x8x3x1 : Shape := ⟨5, ![6, 1, 8, 3, 1]⟩
abbrev S6x8x3x4x2x6144 : Shape := ⟨6, ![6, 8, 3, 4, 2, 6144]⟩
abbrev S48x3x4x2x6144 : Shape := ⟨5, ![48, 3, 4, 2, 6144]⟩
abbrev S6x8x3x4x6144 : Shape := ⟨5, ![6, 8, 3, 4, 6144]⟩
abbrev S48x3x4x6144 : Shape := ⟨4, ![48, 3, 4, 6144]⟩

abbrev nBuf : Space → Nat
  | .hbm => 264
  | .vmem => 2
  | .smem => 0
  | _ => 0

abbrev hbmTy0_0 (i : Nat) : BufTy := match i % 128 with
  | 0 => ⟨S113246208, .i32⟩
  | 1 => ⟨S48x48x32x128, .bf16⟩
  | 2 => ⟨S6x3x8, .f32⟩
  | 3 => ⟨S6x6144x8x3x4x2, .f32⟩
  | 4 => ⟨S6x6144x8x3x4, .f32⟩
  | 5 => ⟨S6x6144, .f32⟩
  | 6 => ⟨S884736x128, .i32⟩
  | 7 => ⟨S3538944x128, .f32⟩
  | 8 => ⟨S6x8x8x48x4x3x4x4x128, .f32⟩
  | 9 => ⟨S6x48x128x8x3x4x4x8x4, .f32⟩
  | 10 => ⟨S6x6144x8x3x4x4x32, .f32⟩
  | 11 => ⟨S6x8x48x32x128, .bf16⟩
  | 12 => ⟨S6x48x128x8x32, .bf16⟩
  | 13 => ⟨S6x6144x8x32, .bf16⟩
  | 14 => ⟨S6x6144x8x32, .f32⟩
  | 15 => ⟨S6x6144x1x1, .f32⟩
  | 16 => ⟨S6x6144x8x32, .f32⟩
  | 17 => ⟨S6x6144x8x32, .f32⟩
  | 18 => ⟨S6x6144x8x3x4, .i32⟩
  | 19 => ⟨S_, .i32⟩
  | 20 => ⟨S6x6144x8x3x4, .i32⟩
  | 21 => ⟨S6x6144x8x3x4, .i1⟩
  | 22 => ⟨S_, .i32⟩
  | 23 => ⟨S6x6144x8x3x4, .i32⟩
  | 24 => ⟨S6x6144x8x3x4, .i1⟩
  | 25 => ⟨S_, .f32⟩
  | 26 => ⟨S_, .f32⟩
  | 27 => ⟨S6x6144x8x3x4, .f32⟩
  | 28 => ⟨S6x6144x8x3x4, .f32⟩
  | 29 => ⟨S6x6144x8x3x4, .f32⟩
  | 30 => ⟨S_, .f32⟩
  | 31 => ⟨S6x6144x8x3x4, .f32⟩
  | 32 => ⟨S6x6144x8x3x4, .f32⟩
  | 33 => ⟨S_, .i32⟩
  | 34 => ⟨S6x6144x8x3x4, .i32⟩
  | 35 => ⟨S6x6144x8x3x4, .i1⟩
  | 36 => ⟨S_, .i32⟩
  | 37 => ⟨S6x6144x8x3x4, .i32⟩
  | 38 => ⟨S6x6144x8x3x4, .i1⟩
  | 39 => ⟨S_, .f32⟩
  | 40 => ⟨S_, .f32⟩
  | 41 => ⟨S6x6144x8x3x4, .f32⟩
  | 42 => ⟨S6x6144x8x3x4, .f32⟩
  | 43 => ⟨S6x6144x8x3x4, .f32⟩
  | 44 => ⟨S_, .f32⟩
  | 45 => ⟨S6x6144x8x3x4, .f32⟩
  | 46 => ⟨S6x6144x8x3x4, .f32⟩
  | 47 => ⟨S6x6144x8x3x4x1, .f32⟩
  | 48 => ⟨S6x6144x8x3x4, .f32⟩
  | 49 => ⟨S6x6144x8x3x4, .f32⟩
  | 50 => ⟨S6x6144x8x3x4, .f32⟩
  | 51 => ⟨S_, .f32⟩
  | 52 => ⟨S6x6144x8x3x4, .f32⟩
  | 53 => ⟨S6x6144x8x3x4, .f32⟩
  | 54 => ⟨S6x6144x8x3x4x1, .f32⟩
  | 55 => ⟨S6x6144x8x3x4, .f32⟩
  | 56 => ⟨S6x6144x8x3x4, .f32⟩
  | 57 => ⟨S6x6144x8x3x4, .f32⟩
  | 58 => ⟨S_, .f32⟩
  | 59 => ⟨S6x6144x8x3x4, .f32⟩
  | 60 => ⟨S6x6144x8x3x4, .f32⟩
  | 61 => ⟨S6x6144x8x3x4, .f32⟩
  | 62 => ⟨S6x6144x8x3x4, .f32⟩
  | 63 => ⟨S6x6144x8x3x4, .f32⟩
  | 64 => ⟨S6x6144x8x3x4x1, .f32⟩
  | 65 => ⟨S6x6144x8x3x4x32, .f32⟩
  | 66 => ⟨S6x6144x8x3x4, .f32⟩
  | 67 => ⟨S6x6144x8x3x4x1, .f32⟩
  | 68 => ⟨S6x6144x8x3x4x32, .f32⟩
  | 69 => ⟨S_, .f32⟩
  | 70 => ⟨S6x6144x8x3x4x32, .f32⟩
  | 71 => ⟨S6x6144x8x3x4x32, .f32⟩
  | 72 => ⟨S_, .f32⟩
  | 73 => ⟨S6x6144x8x3x4x32, .f32⟩
  | 74 => ⟨S6x6144x8x3x4x32, .f32⟩
  | 75 => ⟨S_, .f32⟩
  | 76 => ⟨S6x6144x8x3x4, .f32⟩
  | 77 => ⟨S6x6144x8x3x4, .f32⟩
  | 78 => ⟨S_, .f32⟩
  | 79 => ⟨S6x6144x8x3x4, .f32⟩
  | 80 => ⟨S6x6144x8x3x4, .f32⟩
  | 81 => ⟨S_, .f32⟩
  | 82 => ⟨S6x6144x8x3x4, .f32⟩
  | 83 => ⟨S6x6144x8x3x4, .f32⟩
  | 84 => ⟨S_, .f32⟩
  | 85 => ⟨S6x6144x8x3x4, .f32⟩
  | 86 => ⟨S6x6144x8x3x4, .f32⟩
  | 87 => ⟨S6x6144x8x3x4, .f32⟩
  | 88 => ⟨S6x6144x8x3x4, .f32⟩
  | 89 => ⟨S_, .f32⟩
  | 90 => ⟨S6x6144x8x3x4, .f32⟩
  | 91 => ⟨S6x6144x8x3x4, .f32⟩
  | 92 => ⟨S_, .f32⟩
  | 93 => ⟨S6x6144x8x3x4, .f32⟩
  | 94 => ⟨S6x6144x8x3x4, .f32⟩
  | 95 => ⟨S6x6144x8x3x4, .f32⟩
  | 96 => ⟨S6x6144x8x3x4, .f32⟩
  | 97 => ⟨S_, .f32⟩
  | 98 => ⟨S6x6144x8x3x4, .f32⟩
  | 99 => ⟨S6x6144x8x3x4, .i1⟩
  | 100 => ⟨S6x6144x8x3x4, .f32⟩
  | 101 => ⟨S6x6144x8x3x4, .i1⟩
  | 102 => ⟨S6x6144x8x3x4, .i1⟩
  | 103 => ⟨S_, .f32⟩
  | 104 => ⟨S6x6144x8x3x4, .f32⟩
  | 105 => ⟨S6x6144x8x3x4, .f32⟩
  | 106 => ⟨S6x6144x8x3x4, .f32⟩
  | 107 => ⟨S6x6144x8x3x4, .f32⟩
  | 108 => ⟨S6x6144x8x3x4, .i1⟩
  | 109 => ⟨S_, .f32⟩
  | 110 => ⟨S6x6144x8x3x4, .f32⟩
  | 111 => ⟨S6x6144x8x3x4, .f32⟩
  | 112 => ⟨S_, .f32⟩
  | 113 => ⟨S6x6144x8x3x4, .f32⟩
  | 114 => ⟨S6x6144x8x3x4, .i1⟩
  | 115 => ⟨S6x6144x8x3x4, .f32⟩
  | 116 => ⟨S6x6144x8x3x4, .i1⟩
  | 117 => ⟨S6x6144x8x3x4, .i1⟩
  | 118 => ⟨S_, .f32⟩
  | 119 => ⟨S6x6144x8x3x4, .f32⟩
  | 120 => ⟨S6x6144x8x3x4, .f32⟩
  | 121 => ⟨S6x6144x8x3x4, .f32⟩
  | 122 => ⟨S6x6144x8x3x4, .f32⟩
  | 123 => ⟨S6x6144x8x3x4, .i1⟩
  | 124 => ⟨S_, .f32⟩
  | 125 => ⟨S6x6144x8x3x4, .f32⟩
  | 126 => ⟨S6x6144x8x3x4, .i1⟩
  | 127 => ⟨S6x6144x8x3x4, .f32⟩
  | _ => ⟨S113246208, .i32⟩

abbrev hbmTy0_1 (i : Nat) : BufTy := match i % 128 with
  | 0 => ⟨S6x6144x8x3x4, .i1⟩
  | 1 => ⟨S6x6144x8x3x4, .i1⟩
  | 2 => ⟨S_, .f32⟩
  | 3 => ⟨S6x6144x8x3x4, .f32⟩
  | 4 => ⟨S6x6144x8x3x4, .f32⟩
  | 5 => ⟨S6x6144x8x3x4, .f32⟩
  | 6 => ⟨S6x6144x8x3x4, .f32⟩
  | 7 => ⟨S6x6144x8x3x4, .i1⟩
  | 8 => ⟨S_, .f32⟩
  | 9 => ⟨S6x6144x8x3x4, .f32⟩
  | 10 => ⟨S6x6144x8x3x4, .f32⟩
  | 11 => ⟨S_, .f32⟩
  | 12 => ⟨S6x6144x8x3x4, .f32⟩
  | 13 => ⟨S6x6144x8x3x4, .i1⟩
  | 14 => ⟨S6x6144x8x3x4, .f32⟩
  | 15 => ⟨S6x6144x8x3x4, .i1⟩
  | 16 => ⟨S6x6144x8x3x4, .i1⟩
  | 17 => ⟨S_, .f32⟩
  | 18 => ⟨S6x6144x8x3x4, .f32⟩
  | 19 => ⟨S6x6144x8x3x4, .f32⟩
  | 20 => ⟨S6x6144x8x3x4, .f32⟩
  | 21 => ⟨S6x6144x8x3x4, .f32⟩
  | 22 => ⟨S6x6144x8x3x4, .i1⟩
  | 23 => ⟨S6x6144x8x3x4x1x32, .f32⟩
  | 24 => ⟨S6x6144x8x3x4x32, .f32⟩
  | 25 => ⟨S6x6144x8x3x4x1x32, .f32⟩
  | 26 => ⟨S6x6144x8x3x4x32, .f32⟩
  | 27 => ⟨S6x6144x8x3x4x1x32, .f32⟩
  | 28 => ⟨S6x6144x8x3x4x32, .f32⟩
  | 29 => ⟨S6x6144x8x3x4x1x32, .f32⟩
  | 30 => ⟨S6x6144x8x3x4x32, .f32⟩
  | 31 => ⟨S6x6144x8x3x4x1, .i1⟩
  | 32 => ⟨S6x6144x8x3x4x32, .i1⟩
  | 33 => ⟨S6x6144x8x3x4x32, .f32⟩
  | 34 => ⟨S6x6144x8x3x4x1, .i1⟩
  | 35 => ⟨S6x6144x8x3x4x32, .i1⟩
  | 36 => ⟨S6x6144x8x3x4x32, .f32⟩
  | 37 => ⟨S6x6144x8x3x4x1, .i1⟩
  | 38 => ⟨S6x6144x8x3x4x32, .i1⟩
  | 39 => ⟨S6x6144x8x3x4x32, .f32⟩
  | 40 => ⟨S6x6144x8x3x4, .i1⟩
  | 41 => ⟨S6x6144x8x3x4x1, .i1⟩
  | 42 => ⟨S6x6144x8x3x4x32, .i1⟩
  | 43 => ⟨S_, .f32⟩
  | 44 => ⟨S6x6144x8x3x4x32, .f32⟩
  | 45 => ⟨S6x6144x8x3x4x32, .f32⟩
  | 46 => ⟨S6x6144x8x3x4x1, .i1⟩
  | 47 => ⟨S6x6144x8x3x4x32, .i1⟩
  | 48 => ⟨S6x6144x8x3x4x32, .f32⟩
  | 49 => ⟨S6x6144x8x3x4x1, .i1⟩
  | 50 => ⟨S6x6144x8x3x4x32, .i1⟩
  | 51 => ⟨S6x6144x8x3x4x32, .f32⟩
  | 52 => ⟨S6x6144x8x3x4x1, .i1⟩
  | 53 => ⟨S6x6144x8x3x4x32, .i1⟩
  | 54 => ⟨S6x6144x8x3x4x32, .f32⟩
  | 55 => ⟨S6x6144x8x3x4, .i1⟩
  | 56 => ⟨S6x6144x8x3x4x1, .i1⟩
  | 57 => ⟨S6x6144x8x3x4x32, .i1⟩
  | 58 => ⟨S_, .f32⟩
  | 59 => ⟨S6x6144x8x3x4x32, .f32⟩
  | 60 => ⟨S6x6144x8x3x4x32, .f32⟩
  | 61 => ⟨S6x6144x8x3x4x1, .i1⟩
  | 62 => ⟨S6x6144x8x3x4x32, .i1⟩
  | 63 => ⟨S6x6144x8x3x4x32, .f32⟩
  | 64 => ⟨S6x6144x8x3x4x1, .i1⟩
  | 65 => ⟨S6x6144x8x3x4x32, .i1⟩
  | 66 => ⟨S6x6144x8x3x4x32, .f32⟩
  | 67 => ⟨S6x6144x8x3x4x1, .i1⟩
  | 68 => ⟨S6x6144x8x3x4x32, .i1⟩
  | 69 => ⟨S6x6144x8x3x4x32, .f32⟩
  | 70 => ⟨S6x6144x8x3x4, .i1⟩
  | 71 => ⟨S6x6144x8x3x4x1, .i1⟩
  | 72 => ⟨S6x6144x8x3x4x32, .i1⟩
  | 73 => ⟨S_, .f32⟩
  | 74 => ⟨S6x6144x8x3x4x32, .f32⟩
  | 75 => ⟨S6x6144x8x3x4x32, .f32⟩
  | 76 => ⟨S6x6144x8x3x4x1, .i1⟩
  | 77 => ⟨S6x6144x8x3x4x32, .i1⟩
  | 78 => ⟨S6x6144x8x3x4x32, .f32⟩
  | 79 => ⟨S6x6144x8x3x4x1, .i1⟩
  | 80 => ⟨S6x6144x8x3x4x32, .i1⟩
  | 81 => ⟨S6x6144x8x3x4x32, .f32⟩
  | 82 => ⟨S6x6144x8x3x4x1, .i1⟩
  | 83 => ⟨S6x6144x8x3x4x32, .i1⟩
  | 84 => ⟨S6x6144x8x3x4x32, .f32⟩
  | 85 => ⟨S6x6144x8x3x4, .i1⟩
  | 86 => ⟨S6x6144x8x3x4x1, .i1⟩
  | 87 => ⟨S6x6144x8x3x4x32, .i1⟩
  | 88 => ⟨S_, .f32⟩
  | 89 => ⟨S6x6144x8x3x4x32, .f32⟩
  | 90 => ⟨S6x6144x8x3x4x32, .f32⟩
  | 91 => ⟨S6x6144x8x3x4x32, .f32⟩
  | 92 => ⟨S6x6144x8x3x4x32, .f32⟩
  | 93 => ⟨S6x6144x8x3x4x32, .f32⟩
  | 94 => ⟨S6x6144x8x3x4x32, .f32⟩
  | 95 => ⟨S6x6144x8x3x4x32, .f32⟩
  | 96 => ⟨S6x6144x8x3x4x32, .f32⟩
  | 97 => ⟨S6x6144x8x3x4x32, .f32⟩
  | 98 => ⟨S6x6144x8x3x4x32, .f32⟩
  | 99 => ⟨S6x6144x8x3x4x32, .f32⟩
  | 100 => ⟨S6x6144x8x3x4x32, .f32⟩
  | 101 => ⟨S6x6144x8x3x4x32, .f32⟩
  | 102 => ⟨S6x6144x8x3x4x32, .f32⟩
  | 103 => ⟨S6x6144x8x3x4x32, .f32⟩
  | 104 => ⟨S6x6144x8x3x4x32, .f32⟩
  | 105 => ⟨S6x6144x8x3x4x32, .f32⟩
  | 106 => ⟨S6x6144x8x3x4x32, .f32⟩
  | 107 => ⟨S6x6144x8x3x4x32, .f32⟩
  | 108 => ⟨S6x6144x8x3x4x32, .f32⟩
  | 109 => ⟨S6x6144x8x3x4x32, .f32⟩
  | 110 => ⟨S6x6144x8x3x4x32, .f32⟩
  | 111 => ⟨S6x6144x8x3x4x32, .f32⟩
  | 112 => ⟨S6x8x3, .f32⟩
  | 113 => ⟨S6x1x8x3x1, .f32⟩
  | 114 => ⟨S6x6144x8x3x4, .f32⟩
  | 115 => ⟨S6x6144x8x3x4, .f32⟩
  | 116 => ⟨S6x6144x8x3x4, .f32⟩
  | 117 => ⟨S6x6144x8x3x4, .f32⟩
  | 118 => ⟨S6x6144x8x3x4, .f32⟩
  | 119 => ⟨S6x6144x8x3x4, .f32⟩
  | 120 => ⟨S6x6144x8x3x4, .f32⟩
  | 121 => ⟨S6x6144x8x3x4, .f32⟩
  | 122 => ⟨S6x6144x8x3x4, .f32⟩
  | 123 => ⟨S6x6144x8x3x4, .f32⟩
  | 124 => ⟨S6x6144x8x3x4, .f32⟩
  | 125 => ⟨S6x6144x8x3x4, .f32⟩
  | 126 => ⟨S6x6144x8x3x4, .f32⟩
  | 127 => ⟨S6x6144x8x3x4, .f32⟩
  | _ => ⟨S113246208, .i32⟩

abbrev hbmTy0_2 (i : Nat) : BufTy := match i % 128 with
  | 0 => ⟨S6x6144x8x3x4, .f32⟩
  | 1 => ⟨S6x6144x8x3x4x1, .f32⟩
  | 2 => ⟨S6x6144x8x3x4x1, .f32⟩
  | 3 => ⟨S6x6144x8x3x4x2, .f32⟩
  | 4 => ⟨S6x8x3x4x2x6144, .f32⟩
  | 5 => ⟨S48x3x4x2x6144, .f32⟩
  | 6 => ⟨S6x8x3x4x6144, .f32⟩
  | 7 => ⟨S48x3x4x6144, .f32⟩
  | _ => ⟨S113246208, .i32⟩

abbrev hbmTy (i : Nat) : BufTy := match i / 128 with
  | 0 => hbmTy0_0 i
  | 1 => hbmTy0_1 i
  | 2 => hbmTy0_2 i
  | _ => ⟨S113246208, .i32⟩

abbrev bufTy : (tb : Table) → Fin (tcTables nBuf tb) → BufTy
  | .hbm, ⟨i, _⟩ => hbmTy i
  | .local _ .vmem, ⟨0, _⟩ => ⟨S884736x128, .i32⟩
  | .local _ .vmem, ⟨1, _⟩ => ⟨S3538944x128, .f32⟩
  | _, _ => ⟨S113246208, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_cst_2 : Ref sig .tc := ⟨.hbm, 30, rfl⟩
abbrev main_call1_v0 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v23 : Ref sig .tc := ⟨.hbm, 43, rfl⟩
abbrev main_cst_7 : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_16 : Ref sig .tc := ⟨.hbm, 89, rfl⟩
abbrev main_v59 : Ref sig .tc := ⟨.hbm, 90, rfl⟩
abbrev main_v60 : Ref sig .tc := ⟨.hbm, 91, rfl⟩
abbrev main_cst_17 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_18 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_19 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_20 : Ref sig .tc := ⟨.hbm, 109, rfl⟩
abbrev main_v75 : Ref sig .tc := ⟨.hbm, 110, rfl⟩
abbrev main_v76 : Ref sig .tc := ⟨.hbm, 111, rfl⟩
abbrev main_cst_21 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_22 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_23 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_24 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_25 : Ref sig .tc := ⟨.hbm, 136, rfl⟩
abbrev main_v97 : Ref sig .tc := ⟨.hbm, 137, rfl⟩
abbrev main_v98 : Ref sig .tc := ⟨.hbm, 138, rfl⟩
abbrev main_cst_26 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_27 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_28 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_29 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_30 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_31 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S884736x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3538944x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Repack.lean ====
abbrev S6x6144x256 : Shape := ⟨3, ![6, 6144, 256]⟩
abbrev S6x6144 : Shape := ⟨2, ![6, 6144]⟩
abbrev S288x1x128 : Shape := ⟨3, ![288, 1, 128]⟩
abbrev S48x48x32x128 : Shape := ⟨4, ![48, 48, 32, 128]⟩
abbrev S1x128x256 : Shape := ⟨3, ![1, 128, 256]⟩
abbrev S1x1x128 : Shape := ⟨3, ![1, 1, 128]⟩
abbrev S8x1x32x128 : Shape := ⟨4, ![8, 1, 32, 128]⟩
abbrev S128 : Shape := ⟨1, ![128]⟩
abbrev S128x256 : Shape := ⟨2, ![128, 256]⟩
abbrev S256x128 : Shape := ⟨2, ![256, 128]⟩
abbrev S1x128 : Shape := ⟨2, ![1, 128]⟩
abbrev S8x32x128 : Shape := ⟨3, ![8, 32, 128]⟩

abbrev nBuf : Space → Nat
  | .hbm => 5
  | .vmem => 8
  | .smem => 0
  | _ => 0

abbrev bufTy : (tb : Table) → Fin (tcTables nBuf tb) → BufTy
  | .hbm, ⟨0, _⟩ => ⟨S6x6144x256, .fp8e5m2⟩
  | .hbm, ⟨1, _⟩ => ⟨S6x6144, .f32⟩
  | .hbm, ⟨2, _⟩ => ⟨S288x1x128, .f32⟩
  | .hbm, ⟨3, _⟩ => ⟨S48x48x32x128, .f32⟩
  | .hbm, ⟨4, _⟩ => ⟨S48x48x32x128, .bf16⟩
  | .local _ .vmem, ⟨0, _⟩ => ⟨S1x128x256, .fp8e5m2⟩
  | .local _ .vmem, ⟨1, _⟩ => ⟨S1x128x256, .fp8e5m2⟩
  | .local _ .vmem, ⟨2, _⟩ => ⟨S1x1x128, .f32⟩
  | .local _ .vmem, ⟨3, _⟩ => ⟨S1x1x128, .f32⟩
  | .local _ .vmem, ⟨4, _⟩ => ⟨S8x1x32x128, .f32⟩
  | .local _ .vmem, ⟨5, _⟩ => ⟨S8x1x32x128, .f32⟩
  | .local _ .vmem, ⟨6, _⟩ => ⟨S8x1x32x128, .bf16⟩
  | .local _ .vmem, ⟨7, _⟩ => ⟨S8x1x32x128, .bf16⟩
  | _, _ => ⟨S6x6144x256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 48], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.muli arg0 c48_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x32x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RepackReferenceIdeal.lean ====
abbrev S6x6144x256 : Shape := ⟨3, ![6, 6144, 256]⟩
abbrev S6x6144 : Shape := ⟨2, ![6, 6144]⟩
abbrev S6x6144x1 : Shape := ⟨3, ![6, 6144, 1]⟩
abbrev S6x48x128x8x32 : Shape := ⟨5, ![6, 48, 128, 8, 32]⟩
abbrev S6x8x48x32x128 : Shape := ⟨5, ![6, 8, 48, 32, 128]⟩
abbrev S48x48x32x128 : Shape := ⟨4, ![48, 48, 32, 128]⟩

abbrev nBuf : Space → Nat
  | .hbm => 13
  | .vmem => 2
  | .smem => 0
  | _ => 0

abbrev bufTy : (tb : Table) → Fin (tcTables nBuf tb) → BufTy
  | .hbm, ⟨0, _⟩ => ⟨S6x6144x256, .fp8e5m2⟩
  | .hbm, ⟨1, _⟩ => ⟨S6x6144, .f32⟩
  | .hbm, ⟨2, _⟩ => ⟨S6x6144x256, .f32⟩
  | .hbm, ⟨3, _⟩ => ⟨S6x6144x1, .f32⟩
  | .hbm, ⟨4, _⟩ => ⟨S6x6144x256, .f32⟩
  | .hbm, ⟨5, _⟩ => ⟨S6x6144x256, .f32⟩
  | .hbm, ⟨6, _⟩ => ⟨S6x48x128x8x32, .f32⟩
  | .hbm, ⟨7, _⟩ => ⟨S6x8x48x32x128, .f32⟩
  | .hbm, ⟨8, _⟩ => ⟨S48x48x32x128, .f32⟩
  | .hbm, ⟨9, _⟩ => ⟨S6x6144x256, .bf16⟩
  | .hbm, ⟨10, _⟩ => ⟨S6x48x128x8x32, .bf16⟩
  | .hbm, ⟨11, _⟩ => ⟨S6x8x48x32x128, .bf16⟩
  | .hbm, ⟨12, _⟩ => ⟨S48x48x32x128, .bf16⟩
  | .local _ .vmem, ⟨0, _⟩ => ⟨S6x6144x256, .fp8e5m2⟩
  | .local _ .vmem, ⟨1, _⟩ => ⟨S6x6144x256, .f32⟩
  | _, _ => ⟨S6x6144x256, .fp8e5m2⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S6x6144x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x6144x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Terms.lean ====
/-
  The scalar functions that one sample of one level goes through, on extended reals.

  Along one axis the 2 x 2 patch of a sample starts at `min M (max 0 ⌊x⌋)` with `M` the level's extent less two; the
  four `ax…` functions are the weights of the patch's two cells on that axis and the weights of their difference.
  `pAttn`, `pX`, `pY` combine them with the four inner products `e00 … e11` of the patch's cells.
-/
module

public import Idealize.ShloMosaic.PureOps.Ideal

@[expose] public section
noncomputable section
open Idealize.ShloMosaic
namespace Cert.Terms

/-- The whole-number part of a position. -/
def fl (x : EReal) : EReal := Ideal.liftRound Int.floor x

/-- The first cell of the patch on an axis whose last possible first cell is `M`. -/
def ax (M x : EReal) : EReal := min M (max 0 (fl x))

/-- The weight of the patch's first cell. -/
def ax0 (M x : EReal) : EReal := if fl x = ax M x then 1 - (x - fl x) else if fl x = ax M x - 1 then x - fl x else 0

/-- The weight of the patch's second cell. -/
def ax1 (M x : EReal) : EReal := if fl x = ax M x then x - fl x else if fl x = ax M x + 1 then 1 - (x - fl x) else 0

/-- The first cell's share of the slope along the axis. -/
def ds0 (M x : EReal) : EReal := if fl x = ax M x then 0 - 1 else if fl x = ax M x - 1 then 1 else 0

/-- The second cell's share of the slope along the axis. -/
def ds1 (M x : EReal) : EReal := if fl x = ax M x then 1 else if fl x = ax M x + 1 then 0 - 1 else 0

/-- The gradient of the attention weight of one sample. -/
def pAttn (Mx My x y s e00 e01 e10 e11 : EReal) : EReal :=
  s * (ax0 My y * (ax0 Mx x * e00 + ax1 Mx x * e01) + ax1 My y * (ax0 Mx x * e10 + ax1 Mx x * e11))

/-- The gradient of the horizontal position of one sample. -/
def pX (Mx My x y s a W e00 e01 e10 e11 : EReal) : EReal :=
  s * (ax0 My y * (ds0 Mx x * e00 + ds1 Mx x * e01) + ax1 My y * (ds0 Mx x * e10 + ds1 Mx x * e11)) * a * W

/-- The gradient of the vertical position of one sample. -/
def pY (Mx My x y s a H e00 e01 e10 e11 : EReal) : EReal :=
  s * (ds0 My y * (ax0 Mx x * e00 + ax1 Mx x * e01) + ds1 My y * (ax0 Mx x * e10 + ax1 Mx x * e11)) * a * H

end Cert.Terms
end
-- ==== Proof.Level.lean ====
/-
  What one grid point's body computes: the two blocks it stores, read at an index, as the scalar functions of
  Terms.lean over the point's input blocks. The inner products stay the body's own term here.
-/
module

public import proofs.«01_k».proof.Defs
public import proofs.«01_k».proof.Proof.Terms
public import proofs.«01_k».proof.Proof.Gen.KernelIdeal.Frame
public import Idealize.ShloMosaic.Lib.Pointwise

@[expose] public section
set_option maxRecDepth 16384
noncomputable section
open Idealize.ShloMosaic Idealize.ShloMosaic.TcCoe Idealize.SL.Sem
namespace Cert.KernelIdeal.Level
open Cert.KernelIdeal Cert.KernelIdeal.Gen Cert.Terms

variable (x0 : Vec Ideal S1x8x1x48x128 .i32) (x1 : Vec Ideal S1x1x32x128 .bf16) (x2 : Vec Ideal S1x3x4x2x128 .f32)
  (x3 : Vec Ideal S1x3x4x128 .f32) (x4 : Vec Ideal S1x1x128 .f32) (x5 : Vec Ideal S1x3x1x1 .f32)

/-- The body's inner products: row `12k + 4l + p`, lane `q` is the one of corner `k` of level `l`, point `p`, query `q`. -/
def dots : FVec Ideal S48x128 .f32 := k0_pay127 x0 x1 x2 x3 x4 x5

/-- The f32 constant of a pattern. -/
abbrev cst (b : BitVec 32) : EReal := Ideal.ofBits .f32 b

/-- One cell's scaled inner product: row `n + p` of the body's inner products, times the query's scale. -/
def dt (n : Nat) (p : Fin 4) (q : Fin 128) (h : n + 4 ≤ 48 := by decide) : EReal :=
  dots x0 x1 x2 x3 x4 x5 (ix2 ⟨n + p.val, by have := p.isLt; omega⟩ q) * x4 (ix3 0 0 q)

/-- Level 0: the stored gradient of the attention weights. -/
theorem attn0 (p : Fin 4) (q : Fin 128) :
    k0_pay46 (k0_pay39 (k0_pay137 x0 x1 x2 x3 x4 x5) (k0_pay138 x0 x1 x2 x3 x4 x5) (Scalar.ofBits .f32 0x42BC0000#32) (k0_pay139 x0 x1 x2 x3 x4 x5)) (k0_pay40 (k0_pay137 x0 x1 x2 x3 x4 x5) (k0_pay138 x0 x1 x2 x3 x4 x5) (Scalar.ofBits .f32 0x42BC0000#32) (k0_pay139 x0 x1 x2 x3 x4 x5)) (k0_pay140 x0 x1 x2 x3 x4 x5) (k0_pay42 (k0_pay129 x0 x1 x2 x3 x4 x5) (k0_pay130 x0 x1 x2 x3 x4 x5) (k0_pay135 x0 x1 x2 x3 x4 x5) (k0_pay136 x0 x1 x2 x3 x4 x5)) (k0_pay43 (k0_pay131 x0 x1 x2 x3 x4 x5) (k0_pay132 x0 x1 x2 x3 x4 x5) (k0_pay135 x0 x1 x2 x3 x4 x5) (k0_pay136 x0 x1 x2 x3 x4 x5)) (ix4 0 0 p q)
      = pAttn (cst 0x431E0000#32) (cst 0x42BC0000#32) (x2 (ix5 0 0 p 0 q) * cst 0x43200000#32 - cst 0x3F000000#32)
          (x2 (ix5 0 0 p 1 q) * cst 0x42C00000#32 - cst 0x3F000000#32) (x5 (ix4 0 0 0 0))
          (dt x0 x1 x2 x3 x4 x5 0 p q) (dt x0 x1 x2 x3 x4 x5 12 p q) (dt x0 x1 x2 x3 x4 x5 24 p q) (dt x0 x1 x2 x3 x4 x5 36 p q) := by
  unfold dt dots
  simp only [k0_pay12, k0_pay13, k0_pay14, k0_pay15, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  generalize k0_pay10 (k0_pay124 x0 x1 x2 x3 x4 x5) (k0_pay125 x0 x1 x2 x3 x4 x5) (k0_pay126 x0 x1 x2 x3 x4 x5) (View.ld x0 r0_14) (View.ld x1 r0_15) = D
  unfold_payloads
  pointwise
  try simp only [Nat.zero_add, Fin.eta]
  rfl

/-- Level 1: the stored gradient of the attention weights. -/
theorem attn1 (p : Fin 4) (q : Fin 128) :
    k0_pay85 (k0_pay142 x0 x1 x2 x3 x4 x5) (k0_pay143 x0 x1 x2 x3 x4 x5) (k0_pay144 x0 x1 x2 x3 x4 x5) (k0_pay151 x0 x1 x2 x3 x4 x5) (k0_pay152 x0 x1 x2 x3 x4 x5) (k0_pay153 x0 x1 x2 x3 x4 x5) (k0_pay154 x0 x1 x2 x3 x4 x5) (k0_pay155 x0 x1 x2 x3 x4 x5) (k0_pay156 x0 x1 x2 x3 x4 x5) (ix4 0 0 p q)
      = pAttn (cst 0x429C0000#32) (cst 0x42380000#32) (x2 (ix5 0 1 p 0 q) * cst 0x42A00000#32 - cst 0x3F000000#32)
          (x2 (ix5 0 1 p 1 q) * cst 0x42400000#32 - cst 0x3F000000#32) (x5 (ix4 0 1 0 0))
          (dt x0 x1 x2 x3 x4 x5 4 p q) (dt x0 x1 x2 x3 x4 x5 16 p q) (dt x0 x1 x2 x3 x4 x5 28 p q) (dt x0 x1 x2 x3 x4 x5 40 p q) := by
  unfold dt dots
  simp only [k0_pay12, k0_pay13, k0_pay14, k0_pay15, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  generalize k0_pay10 (k0_pay124 x0 x1 x2 x3 x4 x5) (k0_pay125 x0 x1 x2 x3 x4 x5) (k0_pay126 x0 x1 x2 x3 x4 x5) (View.ld x0 r0_14) (View.ld x1 r0_15) = D
  unfold_payloads
  pointwise
  try simp only [Nat.zero_add, Fin.eta]
  rfl

/-- Level 2: the stored gradient of the attention weights. -/
theorem attn2 (p : Fin 4) (q : Fin 128) :
    k0_pay122 (k0_pay157 x0 x1 x2 x3 x4 x5) (k0_pay158 x0 x1 x2 x3 x4 x5) (k0_pay159 x0 x1 x2 x3 x4 x5) (k0_pay160 x0 x1 x2 x3 x4 x5) (k0_pay168 x0 x1 x2 x3 x4 x5) (k0_pay169 x0 x1 x2 x3 x4 x5) (k0_pay170 x0 x1 x2 x3 x4 x5) (k0_pay171 x0 x1 x2 x3 x4 x5) (View.ld x5 r0_28) (ix4 0 0 p q)
      = pAttn (cst 0x42180000#32) (cst 0x41B00000#32) (x2 (ix5 0 2 p 0 q) * cst 0x42200000#32 - cst 0x3F000000#32)
          (x2 (ix5 0 2 p 1 q) * cst 0x41C00000#32 - cst 0x3F000000#32) (x5 (ix4 0 2 0 0))
          (dt x0 x1 x2 x3 x4 x5 8 p q) (dt x0 x1 x2 x3 x4 x5 20 p q) (dt x0 x1 x2 x3 x4 x5 32 p q) (dt x0 x1 x2 x3 x4 x5 44 p q) := by
  unfold dt dots
  simp only [k0_pay12, k0_pay13, k0_pay14, k0_pay15, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  generalize k0_pay10 (k0_pay124 x0 x1 x2 x3 x4 x5) (k0_pay125 x0 x1 x2 x3 x4 x5) (k0_pay126 x0 x1 x2 x3 x4 x5) (View.ld x0 r0_14) (View.ld x1 r0_15) = D
  unfold_payloads
  pointwise
  try simp only [Nat.zero_add, Fin.eta]
  rfl

/-- Level 0: the stored gradient of the horizontal positions. -/
theorem locx0 (p : Fin 4) (q : Fin 128) :
    k0_pay47 (k0_pay134 x0 x1 x2 x3 x4 x5) (k0_pay140 x0 x1 x2 x3 x4 x5) (k0_pay44 (k0_pay129 x0 x1 x2 x3 x4 x5) (k0_pay130 x0 x1 x2 x3 x4 x5) (k0_pay131 x0 x1 x2 x3 x4 x5) (k0_pay132 x0 x1 x2 x3 x4 x5) (k0_pay29 (k0_pay133 x0 x1 x2 x3 x4 x5)) (k0_pay30 (k0_pay133 x0 x1 x2 x3 x4 x5)) (k0_pay137 x0 x1 x2 x3 x4 x5) (k0_pay138 x0 x1 x2 x3 x4 x5) (Scalar.ofBits .f32 0x42BC0000#32) (k0_pay139 x0 x1 x2 x3 x4 x5)) (ix5 0 0 p 0 q)
      = pX (cst 0x431E0000#32) (cst 0x42BC0000#32) (x2 (ix5 0 0 p 0 q) * cst 0x43200000#32 - cst 0x3F000000#32)
          (x2 (ix5 0 0 p 1 q) * cst 0x42C00000#32 - cst 0x3F000000#32) (x5 (ix4 0 0 0 0)) (x3 (ix4 0 0 p q)) (cst 0x43200000#32)
          (dt x0 x1 x2 x3 x4 x5 0 p q) (dt x0 x1 x2 x3 x4 x5 12 p q) (dt x0 x1 x2 x3 x4 x5 24 p q) (dt x0 x1 x2 x3 x4 x5 36 p q) := by
  unfold dt dots
  simp only [k0_pay12, k0_pay13, k0_pay14, k0_pay15, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  generalize k0_pay10 (k0_pay124 x0 x1 x2 x3 x4 x5) (k0_pay125 x0 x1 x2 x3 x4 x5) (k0_pay126 x0 x1 x2 x3 x4 x5) (View.ld x0 r0_14) (View.ld x1 r0_15) = D
  unfold_payloads
  pointwise
  try simp only [Nat.zero_add, Fin.eta]
  rfl

/-- Level 0: the stored gradient of the vertical positions. -/
theorem locy0 (p : Fin 4) (q : Fin 128) :
    k0_pay48 (k0_pay134 x0 x1 x2 x3 x4 x5) (k0_pay140 x0 x1 x2 x3 x4 x5) (k0_pay45 (k0_pay129 x0 x1 x2 x3 x4 x5) (k0_pay130 x0 x1 x2 x3 x4 x5) (k0_pay131 x0 x1 x2 x3 x4 x5) (k0_pay132 x0 x1 x2 x3 x4 x5) (k0_pay135 x0 x1 x2 x3 x4 x5) (k0_pay136 x0 x1 x2 x3 x4 x5) (k0_pay137 x0 x1 x2 x3 x4 x5) (Scalar.ofBits .f32 0x42BC0000#32) (k0_pay139 x0 x1 x2 x3 x4 x5)) (ix5 0 0 p 0 q)
      = pY (cst 0x431E0000#32) (cst 0x42BC0000#32) (x2 (ix5 0 0 p 0 q) * cst 0x43200000#32 - cst 0x3F000000#32)
          (x2 (ix5 0 0 p 1 q) * cst 0x42C00000#32 - cst 0x3F000000#32) (x5 (ix4 0 0 0 0)) (x3 (ix4 0 0 p q)) (cst 0x42C00000#32)
          (dt x0 x1 x2 x3 x4 x5 0 p q) (dt x0 x1 x2 x3 x4 x5 12 p q) (dt x0 x1 x2 x3 x4 x5 24 p q) (dt x0 x1 x2 x3 x4 x5 36 p q) := by
  unfold dt dots
  simp only [k0_pay12, k0_pay13, k0_pay14, k0_pay15, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  generalize k0_pay10 (k0_pay124 x0 x1 x2 x3 x4 x5) (k0_pay125 x0 x1 x2 x3 x4 x5) (k0_pay126 x0 x1 x2 x3 x4 x5) (View.ld x0 r0_14) (View.ld x1 r0_15) = D
  unfold_payloads
  pointwise
  try simp only [Nat.zero_add, Fin.eta]
  rfl

/-- Level 1: the stored gradient of the horizontal positions. -/
theorem locx1 (p : Fin 4) (q : Fin 128) :
    k0_pay86 (k0_pay141 x0 x1 x2 x3 x4 x5) (k0_pay142 x0 x1 x2 x3 x4 x5) (k0_pay143 x0 x1 x2 x3 x4 x5) (k0_pay144 x0 x1 x2 x3 x4 x5) (k0_pay146 x0 x1 x2 x3 x4 x5) (k0_pay67 (k0_pay147 x0 x1 x2 x3 x4 x5) (k0_pay60 (View.ld x2 r0_21)) (k0_pay149 x0 x1 x2 x3 x4 x5) (k0_pay150 x0 x1 x2 x3 x4 x5)) (k0_pay68 (k0_pay147 x0 x1 x2 x3 x4 x5) (k0_pay148 x0 x1 x2 x3 x4 x5) (k0_pay149 x0 x1 x2 x3 x4 x5) (k0_pay150 x0 x1 x2 x3 x4 x5)) (k0_pay153 x0 x1 x2 x3 x4 x5) (k0_pay154 x0 x1 x2 x3 x4 x5) (k0_pay155 x0 x1 x2 x3 x4 x5) (ix5 0 0 p 0 q)
      = pX (cst 0x429C0000#32) (cst 0x42380000#32) (x2 (ix5 0 1 p 0 q) * cst 0x42A00000#32 - cst 0x3F000000#32)
          (x2 (ix5 0 1 p 1 q) * cst 0x42400000#32 - cst 0x3F000000#32) (x5 (ix4 0 1 0 0)) (x3 (ix4 0 1 p q)) (cst 0x42A00000#32)
          (dt x0 x1 x2 x3 x4 x5 4 p q) (dt x0 x1 x2 x3 x4 x5 16 p q) (dt x0 x1 x2 x3 x4 x5 28 p q) (dt x0 x1 x2 x3 x4 x5 40 p q) := by
  unfold dt dots
  simp only [k0_pay12, k0_pay13, k0_pay14, k0_pay15, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  generalize k0_pay10 (k0_pay124 x0 x1 x2 x3 x4 x5) (k0_pay125 x0 x1 x2 x3 x4 x5) (k0_pay126 x0 x1 x2 x3 x4 x5) (View.ld x0 r0_14) (View.ld x1 r0_15) = D
  unfold_payloads
  pointwise
  try simp only [Nat.zero_add, Fin.eta]
  rfl

/-- Level 1: the stored gradient of the vertical positions. -/
theorem locy1 (p : Fin 4) (q : Fin 128) :
    k0_pay87 (k0_pay142 x0 x1 x2 x3 x4 x5) (k0_pay143 x0 x1 x2 x3 x4 x5) (k0_pay144 x0 x1 x2 x3 x4 x5) (k0_pay146 x0 x1 x2 x3 x4 x5) (k0_pay151 x0 x1 x2 x3 x4 x5) (k0_pay152 x0 x1 x2 x3 x4 x5) (k0_pay79 (k0_pay145 x0 x1 x2 x3 x4 x5)) (k0_pay80 (k0_pay145 x0 x1 x2 x3 x4 x5)) (k0_pay155 x0 x1 x2 x3 x4 x5) (k0_pay156 x0 x1 x2 x3 x4 x5) (ix5 0 0 p 0 q)
      = pY (cst 0x429C0000#32) (cst 0x42380000#32) (x2 (ix5 0 1 p 0 q) * cst 0x42A00000#32 - cst 0x3F000000#32)
          (x2 (ix5 0 1 p 1 q) * cst 0x42400000#32 - cst 0x3F000000#32) (x5 (ix4 0 1 0 0)) (x3 (ix4 0 1 p q)) (cst 0x42400000#32)
          (dt x0 x1 x2 x3 x4 x5 4 p q) (dt x0 x1 x2 x3 x4 x5 16 p q) (dt x0 x1 x2 x3 x4 x5 28 p q) (dt x0 x1 x2 x3 x4 x5 40 p q) := by
  unfold dt dots
  simp only [k0_pay12, k0_pay13, k0_pay14, k0_pay15, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  generalize k0_pay10 (k0_pay124 x0 x1 x2 x3 x4 x5) (k0_pay125 x0 x1 x2 x3 x4 x5) (k0_pay126 x0 x1 x2 x3 x4 x5) (View.ld x0 r0_14) (View.ld x1 r0_15) = D
  unfold_payloads
  pointwise
  try simp only [Nat.zero_add, Fin.eta]
  rfl

/-- Level 2: the stored gradient of the horizontal positions. -/
theorem locx2 (p : Fin 4) (q : Fin 128) :
    k0_pay1 (k0_pay123 (k0_pay157 x0 x1 x2 x3 x4 x5) (k0_pay158 x0 x1 x2 x3 x4 x5) (k0_pay159 x0 x1 x2 x3 x4 x5) (k0_pay160 x0 x1 x2 x3 x4 x5) (k0_pay162 x0 x1 x2 x3 x4 x5) (k0_pay106 (k0_pay163 x0 x1 x2 x3 x4 x5) (k0_pay166 x0 x1 x2 x3 x4 x5) (k0_pay167 x0 x1 x2 x3 x4 x5)) (k0_pay107 (k0_pay163 x0 x1 x2 x3 x4 x5) (k0_pay165 x0 x1 x2 x3 x4 x5) (k0_pay166 x0 x1 x2 x3 x4 x5)) (k0_pay170 x0 x1 x2 x3 x4 x5) (k0_pay171 x0 x1 x2 x3 x4 x5) (View.ld x5 r0_28)) (ix5 0 0 p 0 q)
      = pX (cst 0x42180000#32) (cst 0x41B00000#32) (x2 (ix5 0 2 p 0 q) * cst 0x42200000#32 - cst 0x3F000000#32)
          (x2 (ix5 0 2 p 1 q) * cst 0x41C00000#32 - cst 0x3F000000#32) (x5 (ix4 0 2 0 0)) (x3 (ix4 0 2 p q)) (cst 0x42200000#32)
          (dt x0 x1 x2 x3 x4 x5 8 p q) (dt x0 x1 x2 x3 x4 x5 20 p q) (dt x0 x1 x2 x3 x4 x5 32 p q) (dt x0 x1 x2 x3 x4 x5 44 p q) := by
  unfold dt dots
  simp only [k0_pay12, k0_pay13, k0_pay14, k0_pay15, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  generalize k0_pay10 (k0_pay124 x0 x1 x2 x3 x4 x5) (k0_pay125 x0 x1 x2 x3 x4 x5) (k0_pay126 x0 x1 x2 x3 x4 x5) (View.ld x0 r0_14) (View.ld x1 r0_15) = D
  unfold_payloads
  pointwise
  try simp only [Nat.zero_add, Fin.eta]
  rfl

/-- Level 2: the stored gradient of the vertical positions. -/
theorem locy2 (p : Fin 4) (q : Fin 128) :
    k0_pay2 (k0_pay162 x0 x1 x2 x3 x4 x5) (k0_pay118 (View.ld x5 r0_28)) (k0_pay121 (k0_pay157 x0 x1 x2 x3 x4 x5) (k0_pay158 x0 x1 x2 x3 x4 x5) (k0_pay159 x0 x1 x2 x3 x4 x5) (k0_pay160 x0 x1 x2 x3 x4 x5) (k0_pay168 x0 x1 x2 x3 x4 x5) (k0_pay169 x0 x1 x2 x3 x4 x5) (k0_pay111 (k0_pay161 x0 x1 x2 x3 x4 x5)) (k0_pay112 (k0_pay161 x0 x1 x2 x3 x4 x5)) (k0_pay113 (k0_pay161 x0 x1 x2 x3 x4 x5)) (k0_pay114 (F := Ideal)) (k0_pay115 (F := Ideal))) (ix5 0 0 p 0 q)
      = pY (cst 0x42180000#32) (cst 0x41B00000#32) (x2 (ix5 0 2 p 0 q) * cst 0x42200000#32 - cst 0x3F000000#32)
          (x2 (ix5 0 2 p 1 q) * cst 0x41C00000#32 - cst 0x3F000000#32) (x5 (ix4 0 2 0 0)) (x3 (ix4 0 2 p q)) (cst 0x41C00000#32)
          (dt x0 x1 x2 x3 x4 x5 8 p q) (dt x0 x1 x2 x3 x4 x5 20 p q) (dt x0 x1 x2 x3 x4 x5 32 p q) (dt x0 x1 x2 x3 x4 x5 44 p q) := by
  unfold dt dots
  simp only [k0_pay12, k0_pay13, k0_pay14, k0_pay15, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171]
  generalize k0_pay10 (k0_pay124 x0 x1 x2 x3 x4 x5) (k0_pay125 x0 x1 x2 x3 x4 x5) (k0_pay126 x0 x1 x2 x3 x4 x5) (View.ld x0 r0_14) (View.ld x1 r0_15) = D
  unfold_payloads
  pointwise
  try simp only [Nat.zero_add, Fin.eta]
  rfl

end Cert.KernelIdeal.Level
end
-- ==== Proof.Block.lean ====
/-
  The two blocks a grid point's body stores, read at an index of the whole block: each is put together from one store
  per level (and per axis), which cover disjoint parts.
-/
module

public import proofs.«01_k».proof.Proof.Level
public import Idealize.ShloMosaic.Lib.Pipeline.ValueKit.Geometry

@[expose] public section
set_option maxRecDepth 16384
noncomputable section
open Idealize.ShloMosaic Idealize.ShloMosaic.TcCoe Idealize.SL.Sem
namespace Cert.KernelIdeal.Level
open Idealize.ShloMosaic.ValueKit
open Cert.KernelIdeal Cert.KernelIdeal.Gen Cert.Terms

/-- An index of another level is outside a level's store. -/
theorem off7 (l l' : Nat) (inb) (hl : l' ≠ l) (h : l' < 3) (p : Fin 4) (q : Fin 128) :
    (ix4 0 ⟨l', h⟩ p q : S1x3x4x128.Idx) ∉ (Rect.unit (s := S1x3x4x128) ![0, l, 0, 0] S1x1x4x128.size inb).set := by
  rw [Rect.mem_set_unit]
  intro hh
  have h1 : l ≤ l' ∧ l' < l + 1 := hh 1
  omega

/-- An index of another level or axis is outside a level's store. -/
theorem off6 (l c l' c' : Nat) (inb) (hl : l' ≠ l ∨ c' ≠ c) (h : l' < 3) (hc : c' < 2) (p : Fin 4) (q : Fin 128) :
    (ix5 0 ⟨l', h⟩ p ⟨c', hc⟩ q : S1x3x4x2x128.Idx) ∉ (Rect.unit (s := S1x3x4x2x128) ![0, l, 0, c, 0] S1x1x4x1x128.size inb).set := by
  rw [Rect.mem_set_unit]
  intro hh
  have h1 : l ≤ l' ∧ l' < l + 1 := hh 1
  have h2 : c ≤ c' ∧ c' < c + 1 := hh 3
  omega

/-- A level's store at an index of the block. -/
theorem on7 (l : Nat) (inb) (h : l < 3) (p : Fin 4) (q : Fin 128) :
    (ix4 0 ⟨l, h⟩ p q : S1x3x4x128.Idx) = (Rect.unit (s := S1x3x4x128) ![0, l, 0, 0] S1x1x4x128.size inb).emb (ix4 0 0 p q) := by
  funext a; apply Fin.ext
  rw [rect_emb_unit_val]
  match a with
  | ⟨0, _⟩ => rfl
  | ⟨1, _⟩ => rfl
  | ⟨2, _⟩ => exact (Nat.zero_add _).symm
  | ⟨3, _⟩ => exact (Nat.zero_add _).symm

/-- A level's and axis's store at an index of the block. -/
theorem on6 (l c : Nat) (inb) (h : l < 3) (hc : c < 2) (p : Fin 4) (q : Fin 128) :
    (ix5 0 ⟨l, h⟩ p ⟨c, hc⟩ q : S1x3x4x2x128.Idx) = (Rect.unit (s := S1x3x4x2x128) ![0, l, 0, c, 0] S1x1x4x1x128.size inb).emb (ix5 0 0 p 0 q) := by
  funext a; apply Fin.ext
  rw [rect_emb_unit_val]
  match a with
  | ⟨0, _⟩ => rfl
  | ⟨1, _⟩ => rfl
  | ⟨2, _⟩ => exact (Nat.zero_add _).symm
  | ⟨3, _⟩ => rfl
  | ⟨4, _⟩ => exact (Nat.zero_add _).symm

variable (u0 u1 u2 : S1x1x4x128.Idx → Elt Ideal .f32) (w00 w01 w10 w11 w20 w21 : S1x1x4x1x128.Idx → Elt Ideal .f32)

/-- Level 0 of the three stores of the attention block. -/
theorem canon7_0 (p : Fin 4) (q : Fin 128) :
    View.canon (Val := Elt Ideal) (s := S1x3x4x128) (e := .f32) [⟨r0_27, u2⟩, ⟨r0_23, u1⟩, ⟨r0_19, u0⟩] (ix4 0 0 p q) = u0 (ix4 0 0 p q) := by
  rw [View.canon_cons_of_not_mem (Val := Elt Ideal) (e := .f32) ⟨r0_27, u2⟩ _ (show (ix4 0 0 p q : S1x3x4x128.Idx) ∉ r0_27.set from off7 2 0 _ (by decide) (by decide) p q), View.canon_cons_of_not_mem (Val := Elt Ideal) (e := .f32) ⟨r0_23, u1⟩ _ (show (ix4 0 0 p q : S1x3x4x128.Idx) ∉ r0_23.set from off7 1 0 _ (by decide) (by decide) p q), show (ix4 0 0 p q : S1x3x4x128.Idx) = r0_19.emb (ix4 0 0 p q) from on7 0 _ (by decide) p q, View.canon_cons_emb]

/-- Level 1 of the three stores of the attention block. -/
theorem canon7_1 (p : Fin 4) (q : Fin 128) :
    View.canon (Val := Elt Ideal) (s := S1x3x4x128) (e := .f32) [⟨r0_27, u2⟩, ⟨r0_23, u1⟩, ⟨r0_19, u0⟩] (ix4 0 1 p q) = u1 (ix4 0 0 p q) := by
  rw [View.canon_cons_of_not_mem (Val := Elt Ideal) (e := .f32) ⟨r0_27, u2⟩ _ (show (ix4 0 1 p q : S1x3x4x128.Idx) ∉ r0_27.set from off7 2 1 _ (by decide) (by decide) p q), show (ix4 0 1 p q : S1x3x4x128.Idx) = r0_23.emb (ix4 0 0 p q) from on7 1 _ (by decide) p q, View.canon_cons_emb]

/-- Level 2 of the three stores of the attention block. -/
theorem canon7_2 (p : Fin 4) (q : Fin 128) :
    View.canon (Val := Elt Ideal) (s := S1x3x4x128) (e := .f32) [⟨r0_27, u2⟩, ⟨r0_23, u1⟩, ⟨r0_19, u0⟩] (ix4 0 2 p q) = u2 (ix4 0 0 p q) := by
  rw [show (ix4 0 2 p q : S1x3x4x128.Idx) = r0_27.emb (ix4 0 0 p q) from on7 2 _ (by decide) p q, View.canon_cons_emb]

/-- Level 0, axis 0 of the six stores of the position block. -/
theorem canon6_00 (p : Fin 4) (q : Fin 128) :
    View.canon (Val := Elt Ideal) (s := S1x3x4x2x128) (e := .f32) [⟨r0_26, w21⟩, ⟨r0_25, w20⟩, ⟨r0_22, w11⟩, ⟨r0_21, w10⟩, ⟨r0_18, w01⟩, ⟨r0_17, w00⟩] (ix5 0 0 p 0 q) = w00 (ix5 0 0 p 0 q) := by
  rw [View.canon_cons_of_not_mem (Val := Elt Ideal) (e := .f32) ⟨r0_26, w21⟩ _ (show (ix5 0 0 p 0 q : S1x3x4x2x128.Idx) ∉ r0_26.set from off6 2 1 0 0 _ (by decide) (by decide) (by decide) p q), View.canon_cons_of_not_mem (Val := Elt Ideal) (e := .f32) ⟨r0_25, w20⟩ _ (show (ix5 0 0 p 0 q : S1x3x4x2x128.Idx) ∉ r0_25.set from off6 2 0 0 0 _ (by decide) (by decide) (by decide) p q), View.canon_cons_of_not_mem (Val := Elt Ideal) (e := .f32) ⟨r0_22, w11⟩ _ (show (ix5 0 0 p 0 q : S1x3x4x2x128.Idx) ∉ r0_22.set from off6 1 1 0 0 _ (by decide) (by decide) (by decide) p q), View.canon_cons_of_not_mem (Val := Elt Ideal) (e := .f32) ⟨r0_21, w10⟩ _ (show (ix5 0 0 p 0 q : S1x3x4x2x128.Idx) ∉ r0_21.set from off6 1 0 0 0 _ (by decide) (by decide) (by decide) p q), View.canon_cons_of_not_mem (Val := Elt Ideal) (e := .f32) ⟨r0_18, w01⟩ _ (show (ix5 0 0 p 0 q : S1x3x4x2x128.Idx) ∉ r0_18.set from off6 0 1 0 0 _ (by decide) (by decide) (by decide) p q), show (ix5 0 0 p 0 q : S1x3x4x2x128.Idx) = r0_17.emb (ix5 0 0 p 0 q) from on6 0 0 _ (by decide) (by decide) p q, View.canon_cons_emb]

/-- Level 0, axis 1 of the six stores of the position block. -/
theorem canon6_01 (p : Fin 4) (q : Fin 128) :
    View.canon (Val := Elt Ideal) (s := S1x3x4x2x128) (e := .f32) [⟨r0_26, w21⟩, ⟨r0_25, w20⟩, ⟨r0_22, w11⟩, ⟨r0_21, w10⟩, ⟨r0_18, w01⟩, ⟨r0_17, w00⟩] (ix5 0 0 p 1 q) = w01 (ix5 0 0 p 0 q) := by
  rw [View.canon_cons_of_not_mem (Val := Elt Ideal) (e := .f32) ⟨r0_26, w21⟩ _ (show (ix5 0 0 p 1 q : S1x3x4x2x128.Idx) ∉ r0_26.set from off6 2 1 0 1 _ (by decide) (by decide) (by decide) p q), View.canon_cons_of_not_mem (Val := Elt Ideal) (e := .f32) ⟨r0_25, w20⟩ _ (show (ix5 0 0 p 1 q : S1x3x4x2x128.Idx) ∉ r0_25.set from off6 2 0 0 1 _ (by decide) (by decide) (by decide) p q), View.canon_cons_of_not_mem (Val := Elt Ideal) (e := .f32) ⟨r0_22, w11⟩ _ (show (ix5 0 0 p 1 q : S1x3x4x2x128.Idx) ∉ r0_22.set from off6 1 1 0 1 _ (by decide) (by decide) (by decide) p q), View.canon_cons_of_not_mem (Val := Elt Ideal) (e := .f32) ⟨r0_21, w10⟩ _ (show (ix5 0 0 p 1 q : S1x3x4x2x128.Idx) ∉ r0_21.set from off6 1 0 0 1 _ (by decide) (by decide) (by decide) p q), show (ix5 0 0 p 1 q : S1x3x4x2x128.Idx) = r0_18.emb (ix5 0 0 p 0 q) from on6 0 1 _ (by decide) (by decide) p q, View.canon_cons_emb]

/-- Level 1, axis 0 of the six stores of the position block. -/
theorem canon6_10 (p : Fin 4) (q : Fin 128) :
    View.canon (Val := Elt Ideal) (s := S1x3x4x2x128) (e := .f32) [⟨r0_26, w21⟩, ⟨r0_25, w20⟩, ⟨r0_22, w11⟩, ⟨r0_21, w10⟩, ⟨r0_18, w01⟩, ⟨r0_17, w00⟩] (ix5 0 1 p 0 q) = w10 (ix5 0 0 p 0 q) := by
  rw [View.canon_cons_of_not_mem (Val := Elt Ideal) (e := .f32) ⟨r0_26, w21⟩ _ (show (ix5 0 1 p 0 q : S1x3x4x2x128.Idx) ∉ r0_26.set from off6 2 1 1 0 _ (by decide) (by decide) (by decide) p q), View.canon_cons_of_not_mem (Val := Elt Ideal) (e := .f32) ⟨r0_25, w20⟩ _ (show (ix5 0 1 p 0 q : S1x3x4x2x128.Idx) ∉ r0_25.set from off6 2 0 1 0 _ (by decide) (by decide) (by decide) p q), View.canon_cons_of_not_mem (Val := Elt Ideal) (e := .f32) ⟨r0_22, w11⟩ _ (show (ix5 0 1 p 0 q : S1x3x4x2x128.Idx) ∉ r0_22.set from off6 1 1 1 0 _ (by decide) (by decide) (by decide) p q), show (ix5 0 1 p 0 q : S1x3x4x2x128.Idx) = r0_21.emb (ix5 0 0 p 0 q) from on6 1 0 _ (by decide) (by decide) p q, View.canon_cons_emb]

/-- Level 1, axis 1 of the six stores of the position block. -/
theorem canon6_11 (p : Fin 4) (q : Fin 128) :
    View.canon (Val := Elt Ideal) (s := S1x3x4x2x128) (e := .f32) [⟨r0_26, w21⟩, ⟨r0_25, w20⟩, ⟨r0_22, w11⟩, ⟨r0_21, w10⟩, ⟨r0_18, w01⟩, ⟨r0_17, w00⟩] (ix5 0 1 p 1 q) = w11 (ix5 0 0 p 0 q) := by
  rw [View.canon_cons_of_not_mem (Val := Elt Ideal) (e := .f32) ⟨r0_26, w21⟩ _ (show (ix5 0 1 p 1 q : S1x3x4x2x128.Idx) ∉ r0_26.set from off6 2 1 1 1 _ (by decide) (by decide) (by decide) p q), View.canon_cons_of_not_mem (Val := Elt Ideal) (e := .f32) ⟨r0_25, w20⟩ _ (show (ix5 0 1 p 1 q : S1x3x4x2x128.Idx) ∉ r0_25.set from off6 2 0 1 1 _ (by decide) (by decide) (by decide) p q), show (ix5 0 1 p 1 q : S1x3x4x2x128.Idx) = r0_22.emb (ix5 0 0 p 0 q) from on6 1 1 _ (by decide) (by decide) p q, View.canon_cons_emb]

/-- Level 2, axis 0 of the six stores of the position block. -/
theorem canon6_20 (p : Fin 4) (q : Fin 128) :
    View.canon (Val := Elt Ideal) (s := S1x3x4x2x128) (e := .f32) [⟨r0_26, w21⟩, ⟨r0_25, w20⟩, ⟨r0_22, w11⟩, ⟨r0_21, w10⟩, ⟨r0_18, w01⟩, ⟨r0_17, w00⟩] (ix5 0 2 p 0 q) = w20 (ix5 0 0 p 0 q) := by
  rw [View.canon_cons_of_not_mem (Val := Elt Ideal) (e := .f32) ⟨r0_26, w21⟩ _ (show (ix5 0 2 p 0 q : S1x3x4x2x128.Idx) ∉ r0_26.set from off6 2 1 2 0 _ (by decide) (by decide) (by decide) p q), show (ix5 0 2 p 0 q : S1x3x4x2x128.Idx) = r0_25.emb (ix5 0 0 p 0 q) from on6 2 0 _ (by decide) (by decide) p q, View.canon_cons_emb]

/-- Level 2, axis 1 of the six stores of the position block. -/
theorem canon6_21 (p : Fin 4) (q : Fin 128) :
    View.canon (Val := Elt Ideal) (s := S1x3x4x2x128) (e := .f32) [⟨r0_26, w21⟩, ⟨r0_25, w20⟩, ⟨r0_22, w11⟩, ⟨r0_21, w10⟩, ⟨r0_18, w01⟩, ⟨r0_17, w00⟩] (ix5 0 2 p 1 q) = w21 (ix5 0 0 p 0 q) := by
  rw [show (ix5 0 2 p 1 q : S1x3x4x2x128.Idx) = r0_26.emb (ix5 0 0 p 0 q) from on6 2 1 _ (by decide) (by decide) p q, View.canon_cons_emb]

variable (x0 : Vec Ideal S1x8x1x48x128 .i32) (x1 : Vec Ideal S1x1x32x128 .bf16) (x2 : Vec Ideal S1x3x4x2x128 .f32)
  (x3 : Vec Ideal S1x3x4x128 .f32) (x4 : Vec Ideal S1x1x128 .f32) (x5 : Vec Ideal S1x3x1x1 .f32)

/-- The block of attention-weight gradients at level 0. -/
theorem out_attn0 (p : Fin 4) (q : Fin 128) :
    out0_7 x0 x1 x2 x3 x4 x5 (ix4 0 0 p q)
      = pAttn (cst 0x431E0000#32) (cst 0x42BC0000#32) (x2 (ix5 0 0 p 0 q) * cst 0x43200000#32 - cst 0x3F000000#32)
          (x2 (ix5 0 0 p 1 q) * cst 0x42C00000#32 - cst 0x3F000000#32) (x5 (ix4 0 0 0 0))
          (dt x0 x1 x2 x3 x4 x5 0 p q) (dt x0 x1 x2 x3 x4 x5 12 p q) (dt x0 x1 x2 x3 x4 x5 24 p q) (dt x0 x1 x2 x3 x4 x5 36 p q) :=
  (canon7_0 _ _ _ p q).trans (attn0 x0 x1 x2 x3 x4 x5 p q)

/-- The block of position gradients at level 0, axis 0. -/
theorem out_locx0 (p : Fin 4) (q : Fin 128) :
    out0_6 x0 x1 x2 x3 x4 x5 (ix5 0 0 p 0 q)
      = pX (cst 0x431E0000#32) (cst 0x42BC0000#32) (x2 (ix5 0 0 p 0 q) * cst 0x43200000#32 - cst 0x3F000000#32)
          (x2 (ix5 0 0 p 1 q) * cst 0x42C00000#32 - cst 0x3F000000#32) (x5 (ix4 0 0 0 0)) (x3 (ix4 0 0 p q)) (cst 0x43200000#32)
          (dt x0 x1 x2 x3 x4 x5 0 p q) (dt x0 x1 x2 x3 x4 x5 12 p q) (dt x0 x1 x2 x3 x4 x5 24 p q) (dt x0 x1 x2 x3 x4 x5 36 p q) :=
  (canon6_00 _ _ _ _ _ _ p q).trans (locx0 x0 x1 x2 x3 x4 x5 p q)

/-- The block of position gradients at level 0, axis 1. -/
theorem out_locy0 (p : Fin 4) (q : Fin 128) :
    out0_6 x0 x1 x2 x3 x4 x5 (ix5 0 0 p 1 q)
      = pY (cst 0x431E0000#32) (cst 0x42BC0000#32) (x2 (ix5 0 0 p 0 q) * cst 0x43200000#32 - cst 0x3F000000#32)
          (x2 (ix5 0 0 p 1 q) * cst 0x42C00000#32 - cst 0x3F000000#32) (x5 (ix4 0 0 0 0)) (x3 (ix4 0 0 p q)) (cst 0x42C00000#32)
          (dt x0 x1 x2 x3 x4 x5 0 p q) (dt x0 x1 x2 x3 x4 x5 12 p q) (dt x0 x1 x2 x3 x4 x5 24 p q) (dt x0 x1 x2 x3 x4 x5 36 p q) :=
  (canon6_01 _ _ _ _ _ _ p q).trans (locy0 x0 x1 x2 x3 x4 x5 p q)

/-- The block of attention-weight gradients at level 1. -/
theorem out_attn1 (p : Fin 4) (q : Fin 128) :
    out0_7 x0 x1 x2 x3 x4 x5 (ix4 0 1 p q)
      = pAttn (cst 0x429C0000#32) (cst 0x42380000#32) (x2 (ix5 0 1 p 0 q) * cst 0x42A00000#32 - cst 0x3F000000#32)
          (x2 (ix5 0 1 p 1 q) * cst 0x42400000#32 - cst 0x3F000000#32) (x5 (ix4 0 1 0 0))
          (dt x0 x1 x2 x3 x4 x5 4 p q) (dt x0 x1 x2 x3 x4 x5 16 p q) (dt x0 x1 x2 x3 x4 x5 28 p q) (dt x0 x1 x2 x3 x4 x5 40 p q) :=
  (canon7_1 _ _ _ p q).trans (attn1 x0 x1 x2 x3 x4 x5 p q)

/-- The block of position gradients at level 1, axis 0. -/
theorem out_locx1 (p : Fin 4) (q : Fin 128) :
    out0_6 x0 x1 x2 x3 x4 x5 (ix5 0 1 p 0 q)
      = pX (cst 0x429C0000#32) (cst 0x42380000#32) (x2 (ix5 0 1 p 0 q) * cst 0x42A00000#32 - cst 0x3F000000#32)
          (x2 (ix5 0 1 p 1 q) * cst 0x42400000#32 - cst 0x3F000000#32) (x5 (ix4 0 1 0 0)) (x3 (ix4 0 1 p q)) (cst 0x42A00000#32)
          (dt x0 x1 x2 x3 x4 x5 4 p q) (dt x0 x1 x2 x3 x4 x5 16 p q) (dt x0 x1 x2 x3 x4 x5 28 p q) (dt x0 x1 x2 x3 x4 x5 40 p q) :=
  (canon6_10 _ _ _ _ _ _ p q).trans (locx1 x0 x1 x2 x3 x4 x5 p q)

/-- The block of position gradients at level 1, axis 1. -/
theorem out_locy1 (p : Fin 4) (q : Fin 128) :
    out0_6 x0 x1 x2 x3 x4 x5 (ix5 0 1 p 1 q)
      = pY (cst 0x429C0000#32) (cst 0x42380000#32) (x2 (ix5 0 1 p 0 q) * cst 0x42A00000#32 - cst 0x3F000000#32)
          (x2 (ix5 0 1 p 1 q) * cst 0x42400000#32 - cst 0x3F000000#32) (x5 (ix4 0 1 0 0)) (x3 (ix4 0 1 p q)) (cst 0x42400000#32)
          (dt x0 x1 x2 x3 x4 x5 4 p q) (dt x0 x1 x2 x3 x4 x5 16 p q) (dt x0 x1 x2 x3 x4 x5 28 p q) (dt x0 x1 x2 x3 x4 x5 40 p q) :=
  (canon6_11 _ _ _ _ _ _ p q).trans (locy1 x0 x1 x2 x3 x4 x5 p q)

/-- The block of attention-weight gradients at level 2. -/
theorem out_attn2 (p : Fin 4) (q : Fin 128) :
    out0_7 x0 x1 x2 x3 x4 x5 (ix4 0 2 p q)
      = pAttn (cst 0x42180000#32) (cst 0x41B00000#32) (x2 (ix5 0 2 p 0 q) * cst 0x42200000#32 - cst 0x3F000000#32)
          (x2 (ix5 0 2 p 1 q) * cst 0x41C00000#32 - cst 0x3F000000#32) (x5 (ix4 0 2 0 0))
          (dt x0 x1 x2 x3 x4 x5 8 p q) (dt x0 x1 x2 x3 x4 x5 20 p q) (dt x0 x1 x2 x3 x4 x5 32 p q) (dt x0 x1 x2 x3 x4 x5 44 p q) :=
  (canon7_2 _ _ _ p q).trans (attn2 x0 x1 x2 x3 x4 x5 p q)

/-- The block of position gradients at level 2, axis 0. -/
theorem out_locx2 (p : Fin 4) (q : Fin 128) :
    out0_6 x0 x1 x2 x3 x4 x5 (ix5 0 2 p 0 q)
      = pX (cst 0x42180000#32) (cst 0x41B00000#32) (x2 (ix5 0 2 p 0 q) * cst 0x42200000#32 - cst 0x3F000000#32)
          (x2 (ix5 0 2 p 1 q) * cst 0x41C00000#32 - cst 0x3F000000#32) (x5 (ix4 0 2 0 0)) (x3 (ix4 0 2 p q)) (cst 0x42200000#32)
          (dt x0 x1 x2 x3 x4 x5 8 p q) (dt x0 x1 x2 x3 x4 x5 20 p q) (dt x0 x1 x2 x3 x4 x5 32 p q) (dt x0 x1 x2 x3 x4 x5 44 p q) :=
  (canon6_20 _ _ _ _ _ _ p q).trans (locx2 x0 x1 x2 x3 x4 x5 p q)

/-- The block of position gradients at level 2, axis 1. -/
theorem out_locy2 (p : Fin 4) (q : Fin 128) :
    out0_6 x0 x1 x2 x3 x4 x5 (ix5 0 2 p 1 q)
      = pY (cst 0x42180000#32) (cst 0x41B00000#32) (x2 (ix5 0 2 p 0 q) * cst 0x42200000#32 - cst 0x3F000000#32)
          (x2 (ix5 0 2 p 1 q) * cst 0x41C00000#32 - cst 0x3F000000#32) (x5 (ix4 0 2 0 0)) (x3 (ix4 0 2 p q)) (cst 0x41C00000#32)
          (dt x0 x1 x2 x3 x4 x5 8 p q) (dt x0 x1 x2 x3 x4 x5 20 p q) (dt x0 x1 x2 x3 x4 x5 32 p q) (dt x0 x1 x2 x3 x4 x5 44 p q) :=
  (canon6_21 _ _ _ _ _ _ p q).trans (locy2 x0 x1 x2 x3 x4 x5 p q)

end Cert.KernelIdeal.Level
end
-- ==== Proof.Byte.lean ====
/-
  The four 8-bit codes of a 32-bit word: what `tpu.bitcast` of rows of words reads at an index.
-/
module

public import Idealize.ShloMosaic.Lib.BitcastPair
public import Idealize.ShloMosaic.Lib.Pointwise

@[expose] public section
noncomputable section
open Idealize.ShloMosaic
namespace Cert.Byte

/-- Byte `c` of a word (byte 0 the lowest). -/
def byte (w : BitVec 32) (c : Nat) : BitVec 8 := w.extractLsb' (8 * c) 8

/-- The value of the fp8 code in byte `c` of a word. -/
def code (w : BitVec 32) (c : Nat) : EReal := Ideal.ofBits .fp8e4m3 (byte w c)

/-- Words read at eight bits: result row `a` is byte `a % 4` of word row `a / 4`. -/
theorem bitcast_32_8 {R r n : Nat} (x : (⟨2, ![r, n]⟩ : Shape).Idx → BitVec 32)
    (h : (⟨2, ![r, n]⟩ : Shape).Bitcasts 32 ⟨2, ![R, n]⟩ 8) (a : Fin R) (l : Fin n) (b : Fin r) (hb : b.val = a.val / 4) :
    bitcast ⟨2, ![R, n]⟩ 8 x h (ix2 a l) = byte (x (ix2 b l)) (a.val % 4) := by
  apply BitVec.eq_of_getLsbD_eq
  intro q hq
  rw [bitcast_getLsbD x h _ q hq (by decide)]
  unfold byte
  rw [BitVec.getLsbD_extractLsb']
  have ep : (a.val * 8 + q) / 32 = a.val / 4 := by omega
  have eq : (a.val * 8 + q) % 32 = 8 * (a.val % 4) + q := by omega
  have hp : ∀ c : Fin 2, c.val + 2 = 2 → a.val / 4 < (![r, n] : Fin 2 → Nat) c := fun c hc => by
    have : c = 0 := by apply Fin.ext; show c.val = 0; omega
    subst this
    show a.val / 4 < r
    rw [← hb]; exact b.isLt
  have e2 : h.srcIdx (ix2 a l) (a.val / 4) hp = ix2 b l := by
    funext c
    apply Fin.ext
    match c with
    | ⟨0, _⟩ => rw [Shape.Bitcasts.srcIdx_row h _ _ hp _ (by rfl)]; exact hb.symm
    | ⟨1, _⟩ => rw [Shape.Bitcasts.srcIdx_other h _ _ hp _ (by show ¬ (1 + 2 = 2); omega)]; rfl
  have e3 := h.srcIdx_congr (ix2 a l) ep (fun c hc => by rw [ep]; exact hp c hc) hp
  rw [e2] at e3
  simp only [hq, decide_true, Bool.true_and]
  rw [← eq, ← e3]
  rfl

end Cert.Byte
end
-- ==== Proof.Dots.lean ====
/-
  The body's inner products, read: row `r`, lane `q` is the sum over the 32 channels of a code times its gradient code.
-/
module

public import proofs.«01_k».proof.Proof.Level
public import proofs.«01_k».proof.Proof.Byte

@[expose] public section
set_option maxRecDepth 16384
noncomputable section
open Idealize.ShloMosaic Idealize.ShloMosaic.TcCoe Idealize.SL.Sem
namespace Cert.KernelIdeal.Level
open Cert.KernelIdeal Cert.KernelIdeal.Gen Cert.Byte

/-- The column's word: column `k` of the matrix of ones belongs to row `k / 4`. -/
theorem colWord : ∀ k : Fin 192,
    Scalar.select
            (IntOp.andi
              (IntOp.cmpi CmpIPredicate.ne
                (IntOp.subi (BitVec.setWidth 32 (IntOp.cmpi CmpIPredicate.sgt (BitVec.ofNat 32 k.val) 0#32))
                  (BitVec.setWidth 32 (IntOp.cmpi CmpIPredicate.slt (BitVec.ofNat 32 k.val) 0#32)))
                (Scalar.subi (Scalar.extui (Scalar.cmpi CmpIPredicate.sgt 4#32 0#32))
                  (Scalar.extui (Scalar.cmpi CmpIPredicate.slt 4#32 0#32))))
              (IntOp.cmpi CmpIPredicate.ne (IntOp.remsi ArithUnit.vector (BitVec.ofNat 32 k.val) 4#32) 0#32))
            (IntOp.subi (IntOp.divsi ArithUnit.vector (BitVec.ofNat 32 k.val) 4#32) 1#32)
            (IntOp.divsi ArithUnit.vector (BitVec.ofNat 32 k.val) 4#32) = BitVec.ofNat 32 (k.val / 4) := by
  decide +kernel

/-- The matrix of ones: row `p` has a one in the columns `4p … 4p + 3`. -/
theorem ones_apply (p : Fin 48) (k : Fin 192) :
    k0_pay3 (F := Ideal) (ix2 p k) = if k.val / 4 = p.val then (1 : EReal) else 0 := by
  unfold_payloads
  pointwise
  rw [colWord k]
  have hk := k.isLt
  have hp := p.isLt
  by_cases h : k.val / 4 = p.val
  · rw [if_pos h, h]
    have : IntOp.cmpi CmpIPredicate.eq (BitVec.ofNat 32 p.val) (BitVec.ofNat 32 p.val) = 1#1 := by
      simp [IntOp.cmpi]
    rw [this]
    show (((BitVec.setWidth 32 1#1).toInt : ℝ) : EReal) = 1
    have : (BitVec.setWidth 32 1#1).toInt = 1 := by decide
    rw [this]; norm_num
  · rw [if_neg h]
    have : IntOp.cmpi CmpIPredicate.eq (BitVec.ofNat 32 (k.val / 4)) (BitVec.ofNat 32 p.val) = 0#1 := by
      have hne : BitVec.ofNat 32 (k.val / 4) ≠ BitVec.ofNat 32 p.val := fun e => by
        have := congrArg BitVec.toNat e
        simp only [BitVec.toNat_ofNat] at this
        omega
      show BitVec.ofBool (_ == _) = _
      rw [beq_eq_false_iff_ne.2 hne]; rfl
    rw [this]
    show (((BitVec.setWidth 32 0#1).toInt : ℝ) : EReal) = 0
    have : (BitVec.setWidth 32 0#1).toInt = 0 := by decide
    rw [this]; norm_num

/-- A row of the matrix of ones picks the four products of its word. -/
theorem sum_ones (p : Fin 48) (f : Fin 192 → EReal) :
    ∑ k, (if k.val / 4 = p.val then (1 : EReal) else 0) * f k
      = ∑ c : Fin 4, f ⟨4 * p.val + c.val, by have := p.isLt; have := c.isLt; omega⟩ := by
  rw [← Equiv.sum_comp (finProdFinEquiv (m := 48) (n := 4)) (fun k : Fin 192 => (if k.val / 4 = p.val then (1 : EReal) else 0) * f k), Fintype.sum_prod_type,
    Finset.sum_eq_single p]
  · refine Finset.sum_congr rfl fun c _ => ?_
    have hv : (finProdFinEquiv (m := 48) (n := 4) (p, c)).val = 4 * p.val + c.val := by
      show c.val + 4 * p.val = _; omega
    have hc := c.isLt
    rw [if_pos (by omega), one_mul]
    exact congrArg f (Fin.ext hv)
  · intro a _ ha
    refine Finset.sum_eq_zero fun c _ => ?_
    have hv : (finProdFinEquiv (m := 48) (n := 4) (a, c)).val = 4 * a.val + c.val := by
      show c.val + 4 * a.val = _; omega
    have hc := c.isLt
    have : a.val ≠ p.val := fun e => ha (Fin.ext e)
    rw [if_neg (by omega), zero_mul]
  · intro h; exact absurd (Finset.mem_univ _) h

/-- Forty-eight copies of four rows: row `k` is row `k % 4`. -/
theorem rep_apply (v : FVec Ideal S4x128 .bf16)
    (h : Shape.Concatenates ((List.replicate 48 (⟨S4x128, v⟩ : (s : Shape) × (s.Idx → Ideal .bf16))).map (·.1)) S192x128 0)
    (k : Fin 192) (q : Fin 128) :
    concatenate S192x128 0 (List.replicate 48 (⟨S4x128, v⟩ : (s : Shape) × (s.Idx → Ideal .bf16))) h (ix2 k q)
      = v (ix2 ⟨k.val % 4, Nat.mod_lt _ (by decide)⟩ q) := by
  refine concatenate_replicate_apply (t := S192x128) (s₁ := S4x128) 0 48 v h rfl _ _ rfl ?_
  intro b hb
  match b with
  | ⟨0, _⟩ => exact absurd rfl hb
  | ⟨1, _⟩ => rfl

/-- The accelerator's product with nothing added, at an index. -/
theorem matmul_apply' (a : FVec Ideal S48x192 .bf16) (v : FVec Ideal S192x128 .bf16) (r : Fin 48) (q : Fin 128) :
    matmul dot_S48x192_S192x128_S48x128_1_0_0_1_n_n none a v (constant S48x128 .f32 0x00000000#32) (ix2 r q)
      = ∑ k, a (ix2 r k) * v (ix2 k q) := by
  pointwise

/-- One group of four channels: the matrix of ones times the products of the group's codes. -/
theorem group_apply (w : IVec S48x128 32) (g : FVec Ideal S4x128 .bf16)
    (h : Shape.Concatenates ((List.replicate 48 (⟨S4x128, g⟩ : (s : Shape) × (s.Idx → Ideal .bf16))).map (·.1)) S192x128 0)
    (r : Fin 48) (q : Fin 128) :
    matmul dot_S48x192_S192x128_S48x128_1_0_0_1_n_n none (k0_pay3 (F := Ideal))
        (mulf (extf .bf16 (bitcastToFloat (F := Ideal) .fp8e4m3 (bitcast S192x128 8 w bitcasts_S48x128_w32_S192x128_w8)) bitsLt_fp8e4m3_bf16)
          (concatenate S192x128 0 (List.replicate 48 (⟨S4x128, g⟩ : (s : Shape) × (s.Idx → Ideal .bf16))) h))
        (constant S48x128 .f32 0x00000000#32) (ix2 r q)
      = ∑ c : Fin 4, code (w (ix2 r q)) c.val * g (ix2 c q) := by
  rw [matmul_apply']
  simp only [ones_apply]
  rw [sum_ones]
  refine Finset.sum_congr rfl fun c _ => ?_
  have hc := c.isLt
  have e1 := bitcast_32_8 w bitcasts_S48x128_w32_S192x128_w8 ⟨4 * r.val + c.val, by have := r.isLt; omega⟩ q r (by show r.val = (4 * r.val + c.val) / 4; omega)
  have e2 := rep_apply g h ⟨4 * r.val + c.val, by have := r.isLt; omega⟩ q
  have hm : (4 * r.val + c.val) % 4 = c.val := by omega
  show Ideal.ofBits .fp8e4m3 (bitcast S192x128 8 w bitcasts_S48x128_w32_S192x128_w8 (ix2 ⟨4 * r.val + c.val, _⟩ q))
    * concatenate S192x128 0 _ h (ix2 ⟨4 * r.val + c.val, _⟩ q) = _
  rw [e1, e2]
  simp only [hm]
  rfl

/-- The same over the group's blocks of words and gradient codes. -/
theorem pay5_apply (w : Vec Ideal S1x1x1x48x128 .i32) (g : Vec Ideal S1x1x4x128 .bf16) (r : Fin 48) (q : Fin 128) :
    k0_pay5 w g (ix2 r q) = ∑ c : Fin 4, code (w (ix5 0 0 0 r q)) c.val * g (ix4 0 0 c q) := by
  have e := group_apply (shapeCast S48x128 w shapeCasts_S1x1x1x48x128_S48x128) (shapeCast S4x128 g shapeCasts_S1x1x4x128_S4x128)
    concatenates_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S192x128_d0 r q
  refine Eq.trans ?_ (e.trans ?_)
  · rfl
  · refine Finset.sum_congr rfl fun c _ => ?_
    pointwise

variable (x0 : Vec Ideal S1x8x1x48x128 .i32) (x1 : Vec Ideal S1x1x32x128 .bf16) (x2 : Vec Ideal S1x3x4x2x128 .f32)
  (x3 : Vec Ideal S1x3x4x128 .f32) (x4 : Vec Ideal S1x1x128 .f32) (x5 : Vec Ideal S1x3x1x1 .f32)

/-- The body's inner products are the eight groups' products added one after the other. -/
theorem dots_eq : dots x0 x1 x2 x3 x4 x5 =
    addf (addf (addf (addf (addf (addf (addf (addf (k0_pay4 (F := Ideal))
      (k0_pay5 (View.ld x0 r0_0) (View.ld x1 r0_1)))
      (k0_pay5 (View.ld x0 r0_2) (View.ld x1 r0_3)))
      (k0_pay5 (View.ld x0 r0_4) (View.ld x1 r0_5)))
      (k0_pay5 (View.ld x0 r0_6) (View.ld x1 r0_7)))
      (k0_pay5 (View.ld x0 r0_8) (View.ld x1 r0_9)))
      (k0_pay5 (View.ld x0 r0_10) (View.ld x1 r0_11)))
      (k0_pay5 (View.ld x0 r0_12) (View.ld x1 r0_13)))
      (k0_pay5 (View.ld x0 r0_14) (View.ld x1 r0_15)) := rfl

/-- The body's inner products at an index: the sum over the eight groups of four channels. -/
theorem dots_apply (r : Fin 48) (q : Fin 128) :
    dots x0 x1 x2 x3 x4 x5 (ix2 r q)
      = ∑ g : Fin 8, ∑ c : Fin 4, code (x0 (ix5 0 g 0 r q)) c.val
          * x1 (ix4 0 0 ⟨4 * g.val + c.val, by have := g.isLt; have := c.isLt; omega⟩ q) := by
  rw [dots_eq, Fin.sum_univ_eight]
  have a (x y : FVec Ideal S48x128 .f32) : addf x y (ix2 r q) = x (ix2 r q) + y (ix2 r q) := rfl
  simp only [a, pay5_apply]
  have z : k0_pay4 (F := Ideal) (ix2 r q) = 0 := by unfold_payloads; pointwise
  rw [z, zero_add]
  have w0 : View.ld x0 r0_0 (ix5 0 0 0 r q) = x0 (ix5 0 0 0 r q) := by pointwise
  have g0 (c : Fin 4) : View.ld x1 r0_1 (ix4 0 0 c q) = x1 (ix4 0 0 ⟨4 * 0 + c.val, by have := c.isLt; omega⟩ q) := by pointwise
  have w1 : View.ld x0 r0_2 (ix5 0 0 0 r q) = x0 (ix5 0 1 0 r q) := by pointwise
  have g1 (c : Fin 4) : View.ld x1 r0_3 (ix4 0 0 c q) = x1 (ix4 0 0 ⟨4 * 1 + c.val, by have := c.isLt; omega⟩ q) := by pointwise
  have w2 : View.ld x0 r0_4 (ix5 0 0 0 r q) = x0 (ix5 0 2 0 r q) := by pointwise
  have g2 (c : Fin 4) : View.ld x1 r0_5 (ix4 0 0 c q) = x1 (ix4 0 0 ⟨4 * 2 + c.val, by have := c.isLt; omega⟩ q) := by pointwise
  have w3 : View.ld x0 r0_6 (ix5 0 0 0 r q) = x0 (ix5 0 3 0 r q) := by pointwise
  have g3 (c : Fin 4) : View.ld x1 r0_7 (ix4 0 0 c q) = x1 (ix4 0 0 ⟨4 * 3 + c.val, by have := c.isLt; omega⟩ q) := by pointwise
  have w4 : View.ld x0 r0_8 (ix5 0 0 0 r q) = x0 (ix5 0 4 0 r q) := by pointwise
  have g4 (c : Fin 4) : View.ld x1 r0_9 (ix4 0 0 c q) = x1 (ix4 0 0 ⟨4 * 4 + c.val, by have := c.isLt; omega⟩ q) := by pointwise
  have w5 : View.ld x0 r0_10 (ix5 0 0 0 r q) = x0 (ix5 0 5 0 r q) := by pointwise
  have g5 (c : Fin 4) : View.ld x1 r0_11 (ix4 0 0 c q) = x1 (ix4 0 0 ⟨4 * 5 + c.val, by have := c.isLt; omega⟩ q) := by pointwise
  have w6 : View.ld x0 r0_12 (ix5 0 0 0 r q) = x0 (ix5 0 6 0 r q) := by pointwise
  have g6 (c : Fin 4) : View.ld x1 r0_13 (ix4 0 0 c q) = x1 (ix4 0 0 ⟨4 * 6 + c.val, by have := c.isLt; omega⟩ q) := by pointwise
  have w7 : View.ld x0 r0_14 (ix5 0 0 0 r q) = x0 (ix5 0 7 0 r q) := by pointwise
  have g7 (c : Fin 4) : View.ld x1 r0_15 (ix4 0 0 c q) = x1 (ix4 0 0 ⟨4 * 7 + c.val, by have := c.isLt; omega⟩ q) := by pointwise
  simp only [w0, w1, w2, w3, w4, w5, w6, w7, g0, g1, g2, g3, g4, g5, g6, g7]
  rfl

end Cert.KernelIdeal.Level
end
-- ==== Proof.Final.lean ====
/-
  The kernel's two result arrays after its run, each as one function of the arrays the region finds: a grid point is a
  (batch and head, chunk of 128 queries) pair, and its blocks tile the results.
-/
module

public import proofs.«01_k».proof.Proof.Block
public import proofs.«01_k».proof.Proof.Dots
public import proofs.«01_k».proof.Proof.Gen.KernelIdeal.Value
public import Idealize.ShloMosaic.Lib.Pipeline.ValueKit.Geometry

@[expose] public section
set_option maxRecDepth 16384
noncomputable section
open Idealize.ShloMosaic Idealize.ShloMosaic.TcCoe Idealize.SL.Sem
open Idealize.ShloMosaic.Pipeline (Dat)
namespace Cert.KernelIdeal.Final
open Cert.KernelIdeal Cert.KernelIdeal.Gen Cert.KernelIdeal.Level Cert.Terms Cert.Byte

/-- The width, the height, the last column and the last row of a level, as the patterns the kernel writes. -/
abbrev cW : Fin 3 → EReal := ![cst 0x43200000#32, cst 0x42A00000#32, cst 0x42200000#32]
/-- The levels' heights. -/
abbrev cH : Fin 3 → EReal := ![cst 0x42C00000#32, cst 0x42400000#32, cst 0x41C00000#32]
/-- The levels' widths less two. -/
abbrev cMx : Fin 3 → EReal := ![cst 0x431E0000#32, cst 0x429C0000#32, cst 0x42180000#32]
/-- The levels' heights less two. -/
abbrev cMy : Fin 3 → EReal := ![cst 0x42BC0000#32, cst 0x42380000#32, cst 0x41B00000#32]

variable (raw : Vec Ideal S48x8x48x48x128 .i32) (g : Vec Ideal S48x48x32x128 .bf16) (loc : Vec Ideal S48x3x4x2x6144 .f32)
  (attn : Vec Ideal S48x3x4x6144 .f32) (gs : Vec Ideal S288x1x128 .f32) (vs : Vec Ideal S48x3x1x1 .f32)

/-- The product over the 32 channels of the code words in one row with the gradient codes of the query, by the gradient's scale. -/
def kD (bh : Fin 48) (q : Fin 6144) (r : Nat) (hr : r < 48) : EReal :=
  (∑ grp : Fin 8, ∑ c : Fin 4, code (raw (ix5 bh grp ⟨q.val / 128, by omega⟩ ⟨r, hr⟩ ⟨q.val % 128, by omega⟩)) c.val
      * g (ix4 bh ⟨q.val / 128, by omega⟩ ⟨4 * grp.val + c.val, by omega⟩ ⟨q.val % 128, by omega⟩))
    * gs (ix3 ⟨bh.val / 8 * 48 + q.val / 128, by omega⟩ 0 ⟨q.val % 128, by omega⟩)

variable (bh : Fin 48) (l : Fin 3) (p : Fin 4) (q : Fin 6144)

/-- The product with the row of corner `n / 12` of a level's point. -/
abbrev kE (n : Nat) (hn : n ≤ 36 := by decide) : EReal :=
  kD raw g gs bh q (n + 4 * l.val + p.val) (by have := l.isLt; have := p.isLt; omega)

/-- The gradient of an attention weight, as the kernel computes it. -/
def kAttn : EReal :=
  pAttn (cMx l) (cMy l) (loc (ix5 bh l p 0 q) * cW l - cst 0x3F000000#32) (loc (ix5 bh l p 1 q) * cH l - cst 0x3F000000#32)
    (vs (ix4 bh l 0 0)) (kE raw g gs bh l p q 0) (kE raw g gs bh l p q 12) (kE raw g gs bh l p q 24) (kE raw g gs bh l p q 36)

/-- The gradient of a sampling position's first coordinate, as the kernel computes it. -/
def kX : EReal :=
  pX (cMx l) (cMy l) (loc (ix5 bh l p 0 q) * cW l - cst 0x3F000000#32) (loc (ix5 bh l p 1 q) * cH l - cst 0x3F000000#32)
    (vs (ix4 bh l 0 0)) (attn (ix4 bh l p q)) (cW l)
    (kE raw g gs bh l p q 0) (kE raw g gs bh l p q 12) (kE raw g gs bh l p q 24) (kE raw g gs bh l p q 36)

/-- The gradient of a sampling position's second coordinate, as the kernel computes it. -/
def kY : EReal :=
  pY (cMx l) (cMy l) (loc (ix5 bh l p 0 q) * cW l - cst 0x3F000000#32) (loc (ix5 bh l p 1 q) * cH l - cst 0x3F000000#32)
    (vs (ix4 bh l 0 0)) (attn (ix4 bh l p q)) (cH l)
    (kE raw g gs bh l p q 0) (kE raw g gs bh l p q 12) (kE raw g gs bh l p q 24) (kE raw g gs bh l p q 36)

/-- The whole array of attention-weight gradients. -/
def kArr7 : Vec Ideal S48x3x4x6144 .f32 := fun i => kAttn raw g loc gs vs (i 0) (i 1) (i 2) (i 3)

/-- The whole array of position gradients. -/
def kArr6 : Vec Ideal S48x3x4x2x6144 .f32 := fun i =>
  if (i 3).val = 0 then kX raw g loc attn gs vs (i 0) (i 1) (i 2) (i 4) else kY raw g loc attn gs vs (i 0) (i 1) (i 2) (i 4)

/-! ## The blocks of a grid point -/

/-- Which block of operand 0 a grid point has. -/
theorem idx0 : ∀ t : Fin grid0.N, win0_0.index t = ![t.val / 48, 0, t.val % 48, 0, 0] := by decide +kernel
/-- Which block of operand 1 a grid point has. -/
theorem idx1 : ∀ t : Fin grid0.N, win0_1.index t = ![t.val / 48, t.val % 48, 0, 0] := by decide +kernel
/-- Which block of operand 2 a grid point has. -/
theorem idx2 : ∀ t : Fin grid0.N, win0_2.index t = ![t.val / 48, 0, 0, 0, t.val % 48] := by decide +kernel
/-- Which block of operand 3 a grid point has. -/
theorem idx3 : ∀ t : Fin grid0.N, win0_3.index t = ![t.val / 48, 0, 0, t.val % 48] := by decide +kernel
/-- Which block of operand 4 a grid point has. -/
theorem idx4 : ∀ t : Fin grid0.N, win0_4.index t = ![t.val / 48 / 8 * 48 + t.val % 48, 0, 0] := by decide +kernel
/-- Which block of operand 5 a grid point has. -/
theorem idx5 : ∀ t : Fin grid0.N, win0_5.index t = ![t.val / 48, 0, 0, 0] := by decide +kernel
/-- Which block of operand 6 a grid point has. -/
theorem idx6 : ∀ t : Fin grid0.N, win0_6.index t = ![t.val / 48, 0, 0, 0, t.val % 48] := by decide +kernel
/-- Which block of operand 7 a grid point has. -/
theorem idx7 : ∀ t : Fin grid0.N, win0_7.index t = ![t.val / 48, 0, 0, t.val % 48] := by decide +kernel

variable (m : (ℓ : Loc nD τ sig) → Buf (Elt Ideal) ℓ) (d : Dev nD)

/-- The batch and head of a grid point. -/
abbrev bhOf (t : Fin grid0.N) : Fin 48 := ⟨t.val / 48, by have : t.val < 2304 := t.isLt; omega⟩
/-- The chunk of queries of a grid point. -/
abbrev ckOf (t : Fin grid0.N) : Fin 48 := ⟨t.val % 48, by omega⟩
/-- A query of the grid point's chunk. -/
abbrev qOf (t : Fin grid0.N) (q : Fin 128) : Fin 6144 := ⟨t.val % 48 * 128 + q.val, by omega⟩

/-- The code words of a grid point, read in the whole array. -/
theorem rd0 (t : Fin cfg0.N) (grp : Fin 8) (r : Fin 48) (q : Fin 128) :
    iblk m d 0 t (ix5 0 grp 0 r q : S1x8x1x48x128.Idx) = V m d main_v5 (ix5 (bhOf t) grp (ckOf t) r q : S48x8x48x48x128.Idx) := by
  blk_ext [iblk, idx0 t]
/-- The gradient codes of a grid point, read in the whole array. -/
theorem rd1 (t : Fin cfg0.N) (r : Fin 32) (q : Fin 128) :
    iblk m d 1 t (ix4 0 0 r q : S1x1x32x128.Idx) = V m d main_arg1 (ix4 (bhOf t) (ckOf t) r q : S48x48x32x128.Idx) := by
  blk_ext [iblk, idx1 t]
/-- The locations of a grid point, read in the whole array. -/
theorem rd2 (t : Fin cfg0.N) (l : Fin 3) (p : Fin 4) (c : Fin 2) (q : Fin 128) :
    iblk m d 2 t (ix5 0 l p c q : S1x3x4x2x128.Idx) = V m d main_v1 (ix5 (bhOf t) l p c (qOf t q) : S48x3x4x2x6144.Idx) := by
  blk_ext [iblk, idx2 t]
/-- The attention weights of a grid point, read in the whole array. -/
theorem rd3 (t : Fin cfg0.N) (l : Fin 3) (p : Fin 4) (q : Fin 128) :
    iblk m d 3 t (ix4 0 l p q : S1x3x4x128.Idx) = V m d main_v3 (ix4 (bhOf t) l p (qOf t q) : S48x3x4x6144.Idx) := by
  blk_ext [iblk, idx3 t]
/-- The gradient's scales of a grid point, read in the whole array. -/
theorem rd4 (t : Fin cfg0.N) (q : Fin 128) :
    iblk m d 4 t (ix3 0 0 q : S1x1x128.Idx) = V m d main_v4 (ix3 ⟨t.val / 48 / 8 * 48 + t.val % 48, by have : t.val < 2304 := t.isLt; omega⟩ 0 q : S288x1x128.Idx) := by
  blk_ext [iblk, idx4 t]
/-- The values' scales of a grid point, read in the whole array. -/
theorem rd5 (t : Fin cfg0.N) (l : Fin 3) :
    iblk m d 5 t (ix4 0 l 0 0 : S1x3x1x1.Idx) = V m d main_v7 (ix4 (bhOf t) l 0 0 : S48x3x1x1.Idx) := by
  blk_ext [iblk, idx5 t]

/-- The blocks of the position gradients cover their array. -/
theorem covers6 : win0_6.Covers := by decide +kernel
/-- The blocks of the attention gradients cover their array. -/
theorem covers7 : win0_7.Covers := by decide +kernel

end Cert.KernelIdeal.Final
end
-- ==== Proof.Arrays.lean ====
/-
  The kernel's two result arrays after its run: what each grid point writes back is its block of the whole-array
  functions of Final.lean.
-/
module

public import proofs.«01_k».proof.Proof.Final

@[expose] public section
set_option maxRecDepth 16384
noncomputable section
open Idealize.ShloMosaic Idealize.ShloMosaic.TcCoe Idealize.SL.Sem
open Idealize.ShloMosaic.Pipeline (Dat)
namespace Cert.KernelIdeal.Final
open Cert.KernelIdeal Cert.KernelIdeal.Gen Cert.KernelIdeal.Level Cert.Terms Cert.Byte

variable (m : (ℓ : Loc nD τ sig) → Buf (Elt Ideal) ℓ) (d : Dev nD)

/-- The product of a row of a grid point's block is that of the row of the whole array. -/
theorem dt_eq (t : Fin cfg0.N) (l : Fin 3) (p : Fin 4) (q : Fin 128) (n N : Nat) (hn : n ≤ 36) (hN : N = n + 4 * l.val) (h : N + 4 ≤ 48) :
    dt (iblk m d 0 t) (iblk m d 1 t) (iblk m d 2 t) (iblk m d 3 t) (iblk m d 4 t) (iblk m d 5 t) N p q h
      = kE (V m d main_v5) (V m d main_arg1) (V m d main_v4) (bhOf t) l p (qOf t q) n hn := by
  subst hN
  have h1 : (t.val % 48 * 128 + q.val) / 128 = t.val % 48 := by omega
  have h2 : (t.val % 48 * 128 + q.val) % 128 = q.val := by omega
  unfold dt kE kD
  rw [dots_apply, rd4]
  have e1 : (⟨(qOf t q).val / 128, by omega⟩ : Fin 48) = ckOf t := Fin.ext h1
  have e2 : (⟨(qOf t q).val % 128, by omega⟩ : Fin 128) = q := Fin.ext h2
  have e3 : (⟨(bhOf t).val / 8 * 48 + (qOf t q).val / 128, by omega⟩ : Fin 288)
      = ⟨t.val / 48 / 8 * 48 + t.val % 48, by have : t.val < 2304 := t.isLt; omega⟩ :=
    Fin.ext (congrArg (t.val / 48 / 8 * 48 + ·) h1)
  rw [e1, e2, e3]
  refine congrArg (· * _) ?_
  refine Finset.sum_congr rfl fun g _ => Finset.sum_congr rfl fun c _ => ?_
  rw [rd0, rd1]

/-- Every index of an attention block. -/
theorem ix_7 (y : S1x3x4x128.Idx) : ∃ (l : Fin 3) (p : Fin 4) (q : Fin 128), y = ix4 0 l p q :=
  ⟨y 1, y 2, y 3, by funext a; match a with | ⟨0, _⟩ => exact Fin.ext (by have : (y 0).val < 1 := (y 0).isLt; show (y 0).val = 0; omega) | ⟨1, _⟩ => rfl | ⟨2, _⟩ => rfl | ⟨3, _⟩ => rfl⟩

/-- Every index of a position block. -/
theorem ix_6 (y : S1x3x4x2x128.Idx) : ∃ (l : Fin 3) (p : Fin 4) (c : Fin 2) (q : Fin 128), y = ix5 0 l p c q :=
  ⟨y 1, y 2, y 3, y 4, by funext a; match a with | ⟨0, _⟩ => exact Fin.ext (by have : (y 0).val < 1 := (y 0).isLt; show (y 0).val = 0; omega) | ⟨1, _⟩ => rfl | ⟨2, _⟩ => rfl | ⟨3, _⟩ => rfl | ⟨4, _⟩ => rfl⟩

/-- A grid point's attention block. -/
theorem blk7 (t : Fin cfg0.N) (l : Fin 3) (p : Fin 4) (q : Fin 128) :
    out0_7 (iblk m d 0 t) (iblk m d 1 t) (iblk m d 2 t) (iblk m d 3 t) (iblk m d 4 t) (iblk m d 5 t) (ix4 0 l p q)
      = kAttn (V m d main_v5) (V m d main_arg1) (V m d main_v1) (V m d main_v4) (V m d main_v7) (bhOf t) l p (qOf t q) := by
  unfold kAttn
  match l with
  | 0 => rw [out_attn0, rd2, rd2, rd5, dt_eq m d t 0 p q 0 _ (by decide) (by decide), dt_eq m d t 0 p q 12 _ (by decide) (by decide),
      dt_eq m d t 0 p q 24 _ (by decide) (by decide), dt_eq m d t 0 p q 36 _ (by decide) (by decide)]; rfl
  | 1 => rw [out_attn1, rd2, rd2, rd5, dt_eq m d t 1 p q 0 _ (by decide) (by decide), dt_eq m d t 1 p q 12 _ (by decide) (by decide),
      dt_eq m d t 1 p q 24 _ (by decide) (by decide), dt_eq m d t 1 p q 36 _ (by decide) (by decide)]; rfl
  | 2 => rw [out_attn2, rd2, rd2, rd5, dt_eq m d t 2 p q 0 _ (by decide) (by decide), dt_eq m d t 2 p q 12 _ (by decide) (by decide),
      dt_eq m d t 2 p q 24 _ (by decide) (by decide), dt_eq m d t 2 p q 36 _ (by decide) (by decide)]; rfl

/-- A grid point's position block, first coordinate. -/
theorem blk6x (t : Fin cfg0.N) (l : Fin 3) (p : Fin 4) (q : Fin 128) :
    out0_6 (iblk m d 0 t) (iblk m d 1 t) (iblk m d 2 t) (iblk m d 3 t) (iblk m d 4 t) (iblk m d 5 t) (ix5 0 l p 0 q)
      = kX (V m d main_v5) (V m d main_arg1) (V m d main_v1) (V m d main_v3) (V m d main_v4) (V m d main_v7) (bhOf t) l p (qOf t q) := by
  unfold kX
  match l with
  | 0 => rw [out_locx0, rd2, rd2, rd3, rd5, dt_eq m d t 0 p q 0 _ (by decide) (by decide), dt_eq m d t 0 p q 12 _ (by decide) (by decide),
      dt_eq m d t 0 p q 24 _ (by decide) (by decide), dt_eq m d t 0 p q 36 _ (by decide) (by decide)]; rfl
  | 1 => rw [out_locx1, rd2, rd2, rd3, rd5, dt_eq m d t 1 p q 0 _ (by decide) (by decide), dt_eq m d t 1 p q 12 _ (by decide) (by decide),
      dt_eq m d t 1 p q 24 _ (by decide) (by decide), dt_eq m d t 1 p q 36 _ (by decide) (by decide)]; rfl
  | 2 => rw [out_locx2, rd2, rd2, rd3, rd5, dt_eq m d t 2 p q 0 _ (by decide) (by decide), dt_eq m d t 2 p q 12 _ (by decide) (by decide),
      dt_eq m d t 2 p q 24 _ (by decide) (by decide), dt_eq m d t 2 p q 36 _ (by decide) (by decide)]; rfl

/-- A grid point's position block, second coordinate. -/
theorem blk6y (t : Fin cfg0.N) (l : Fin 3) (p : Fin 4) (q : Fin 128) :
    out0_6 (iblk m d 0 t) (iblk m d 1 t) (iblk m d 2 t) (iblk m d 3 t) (iblk m d 4 t) (iblk m d 5 t) (ix5 0 l p 1 q)
      = kY (V m d main_v5) (V m d main_arg1) (V m d main_v1) (V m d main_v3) (V m d main_v4) (V m d main_v7) (bhOf t) l p (qOf t q) := by
  unfold kY
  match l with
  | 0 => rw [out_locy0, rd2, rd2, rd3, rd5, dt_eq m d t 0 p q 0 _ (by decide) (by decide), dt_eq m d t 0 p q 12 _ (by decide) (by decide),
      dt_eq m d t 0 p q 24 _ (by decide) (by decide), dt_eq m d t 0 p q 36 _ (by decide) (by decide)]; rfl
  | 1 => rw [out_locy1, rd2, rd2, rd3, rd5, dt_eq m d t 1 p q 0 _ (by decide) (by decide), dt_eq m d t 1 p q 12 _ (by decide) (by decide),
      dt_eq m d t 1 p q 24 _ (by decide) (by decide), dt_eq m d t 1 p q 36 _ (by decide) (by decide)]; rfl
  | 2 => rw [out_locy2, rd2, rd2, rd3, rd5, dt_eq m d t 2 p q 0 _ (by decide) (by decide), dt_eq m d t 2 p q 12 _ (by decide) (by decide),
      dt_eq m d t 2 p q 24 _ (by decide) (by decide), dt_eq m d t 2 p q 36 _ (by decide) (by decide)]; rfl

/-- An index of the attention block, placed in the whole array. -/
theorem emb7 (t : Fin cfg0.N) (l : Fin 3) (p : Fin 4) (q : Fin 128) :
    (((cfg0.win 7).blk t).view.emb (ix4 0 l p q : S1x3x4x128.Idx) : S48x3x4x6144.Idx) = ix4 (bhOf t) l p (qOf t q) := by
  blk_ext [idx7 t]

/-- An index of the position block, placed in the whole array. -/
theorem emb6 (t : Fin cfg0.N) (l : Fin 3) (p : Fin 4) (c : Fin 2) (q : Fin 128) :
    (((cfg0.win 6).blk t).view.emb (ix5 0 l p c q : S1x3x4x2x128.Idx) : S48x3x4x2x6144.Idx) = ix5 (bhOf t) l p c (qOf t q) := by
  blk_ext [idx6 t]

/-- The array of attention-weight gradients after the run. -/
theorem arr7 : (dats m 0 d).arrAt 7 cfg0.N = kArr7 (V m d main_v5) (V m d main_arg1) (V m d main_v1) (V m d main_v4) (V m d main_v7) := by
  refine (dats m 0 d).arrAt_eq_of_covers 7 _ covers7 fun t hf y => ?_
  blk_simp
  rw [after0_7]
  obtain ⟨l, p, q, rfl⟩ := ix_7 y
  refine (blk7 m d t l p q).trans ?_
  exact (congrArg (kArr7 (V m d main_v5) (V m d main_arg1) (V m d main_v1) (V m d main_v4) (V m d main_v7)) (emb7 t l p q)).symm

/-- The array of position gradients after the run. -/
theorem arr6 : (dats m 0 d).arrAt 6 cfg0.N = kArr6 (V m d main_v5) (V m d main_arg1) (V m d main_v1) (V m d main_v3) (V m d main_v4) (V m d main_v7) := by
  refine (dats m 0 d).arrAt_eq_of_covers 6 _ covers6 fun t hf y => ?_
  blk_simp
  rw [after0_6]
  obtain ⟨l, p, c, q, rfl⟩ := ix_6 y
  refine Eq.trans ?_ (congrArg (kArr6 (V m d main_v5) (V m d main_arg1) (V m d main_v1) (V m d main_v3) (V m d main_v4) (V m d main_v7)) (emb6 t l p c q)).symm
  match c with
  | 0 => exact blk6x m d t l p q
  | 1 => exact blk6y m d t l p q

end Cert.KernelIdeal.Final
end
-- ==== Proof.RefIdx.lean ====
/-
  Indices of rank 6 and 7, and the reference's layout operations read at them.
-/
module

public import proofs.«01_k».proof.Proof.Final
public import proofs.«01_k».proof.Proof.Gen.ReferenceIdeal.Run
public import Idealize.ShloMosaic.Lib.Pipeline.Value

@[expose] public section
set_option maxRecDepth 16384
noncomputable section
open Idealize.ShloMosaic Idealize.ShloMosaic.TcCoe Idealize.SL.Sem
namespace Cert.RefRead
open Cert.ReferenceIdeal Cert.ReferenceIdeal.Value Cert.Terms
open Cert.KernelIdeal.Final (cW cH)
open Cert.KernelIdeal.Level (cst)

/-- A point's coordinates, the axis or a channel last. -/
def i6 {n5 : Nat} (b : Fin 6) (q : Fin 6144) (h : Fin 8) (l : Fin 3) (p : Fin 4) (d : Fin n5) :
    (⟨6, ![6, 6144, 8, 3, 4, n5]⟩ : Shape).Idx := fun a => match a with
  | ⟨0, _⟩ => b
  | ⟨1, _⟩ => q
  | ⟨2, _⟩ => h
  | ⟨3, _⟩ => l
  | ⟨4, _⟩ => p
  | ⟨5, _⟩ => d

/-- A point's coordinates, the corner and the channel last. -/
def i7 {n5 : Nat} (b : Fin 6) (q : Fin 6144) (h : Fin 8) (l : Fin 3) (p : Fin 4) (k : Fin n5) (d : Fin 32) :
    (⟨7, ![6, 6144, 8, 3, 4, n5, 32]⟩ : Shape).Idx := fun a => match a with
  | ⟨0, _⟩ => b
  | ⟨1, _⟩ => q
  | ⟨2, _⟩ => h
  | ⟨3, _⟩ => l
  | ⟨4, _⟩ => p
  | ⟨5, _⟩ => k
  | ⟨6, _⟩ => d

/-- The number zero, one and two, as the reference writes them. -/
abbrev z0 : EReal := cst 0x00000000#32
/-- The constant 1.0. -/
abbrev o1 : EReal := cst 0x3F800000#32
/-- The constant 2.0. -/
abbrev t2 : EReal := cst 0x40000000#32

/-- Whether a cell is inside. -/
def inB (c last : EReal) : BitVec 1 := IntOp.andi (Ideal.cmp .oge c z0) (Ideal.cmp .ole c last)
/-- Whether a cell, clipped, is the first of the two kept. -/
def isF (c last first : EReal) : BitVec 1 := Ideal.cmp .oeq (min (max c z0) last) first
/-- The code of a corner. -/
def cor (iny inx ft fl : BitVec 1) (p00 p01 p10 p11 : EReal) : EReal :=
  Scalar.select (IntOp.andi iny inx) (Scalar.select ft (Scalar.select fl p00 p01) (Scalar.select fl p10 p11)) z0

variable {α : Type} (b : Fin 6) (q : Fin 6144) (h : Fin 8) (l : Fin 3) (p : Fin 4) (d : Fin 32)

/-- A value of a point, spread over the channels. -/
theorem wide (x : S6x6144x8x3x4.Idx → α) (h1) (h2) :
    broadcastInDim S6x6144x8x3x4x32 ![0, 1, 2, 3, 4, 5] h1
      (broadcastInDim (s := S6x6144x8x3x4) S6x6144x8x3x4x1 ![0, 1, 2, 3, 4] h2 x) (i6 b q h l p d) = x (ix5 b q h l p) := by
  rw [broadcastInDim_apply _ _ _ _ (i6 b q h l p (0 : Fin 1)) (fun a => match a with
    | ⟨0, _⟩ => rfl | ⟨1, _⟩ => rfl | ⟨2, _⟩ => rfl | ⟨3, _⟩ => rfl | ⟨4, _⟩ => rfl | ⟨5, _⟩ => rfl)]
  exact broadcastInDim_apply _ _ _ _ _ (fun a => match a with
    | ⟨0, _⟩ => rfl | ⟨1, _⟩ => rfl | ⟨2, _⟩ => rfl | ⟨3, _⟩ => rfl | ⟨4, _⟩ => rfl)

/-- The row-major position at rank 6. -/
theorem rm6 {d : Fin 6 → Nat} (i : (⟨6, d⟩ : Shape).Idx) :
    ((⟨6, d⟩ : Shape).rowMajor i).val
      = (((((i 0).val * d 1 + (i 1).val) * d 2 + (i 2).val) * d 3 + (i 3).val) * d 4 + (i 4).val) * d 5 + (i 5).val := by
  rw [Shape.rowMajor_val_succ, Shape.rowMajor_val_five]
  simp only [Shape.numel, Fin.prod_univ_succ, Fin.prod_univ_zero]
  simp only [Fin.succ_zero_eq_one, Fin.isValue, Fin.succ_one_eq_two, Fin.reduceSucc]
  ring

/-- The row-major position at rank 7. -/
theorem rm7 {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  rw [Shape.rowMajor_val_succ, rm6]
  simp only [Shape.numel, Fin.prod_univ_succ, Fin.prod_univ_zero]
  simp only [Fin.succ_zero_eq_one, Fin.isValue, Fin.succ_one_eq_two, Fin.reduceSucc]
  ring

/-- The row-major position at rank 8. -/
theorem rm8 {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6 + (i 6).val) * d 7 + (i 7).val := by
  rw [Shape.rowMajor_val_succ, rm7]
  simp only [Shape.numel, Fin.prod_univ_succ, Fin.prod_univ_zero]
  simp only [Fin.succ_zero_eq_one, Fin.isValue, Fin.succ_one_eq_two, Fin.reduceSucc]
  ring

/-- The row-major position at rank 9. -/
theorem rm9 {d : Fin 9 → Nat} (i : (⟨9, d⟩ : Shape).Idx) :
    ((⟨9, d⟩ : Shape).rowMajor i).val
      = ((((((((i 0).val * d 1 + (i 1).val) * d 2 + (i 2).val) * d 3 + (i 3).val) * d 4 + (i 4).val) * d 5 + (i 5).val) * d 6 + (i 6).val) * d 7 + (i 7).val) * d 8 + (i 8).val := by
  rw [Shape.rowMajor_val_succ, rm8]
  simp only [Shape.numel, Fin.prod_univ_succ, Fin.prod_univ_zero]
  simp only [Fin.succ_zero_eq_one, Fin.isValue, Fin.succ_one_eq_two, Fin.reduceSucc]
  ring

/-- One axis of the positions, at a point. -/
theorem axis (x : S6x6144x8x3x4x2.Idx → α) (off : Fin 6 → Nat) (k : Fin 2) (ho : off = ![0, 0, 0, 0, 0, k.val]) (hs) (hc) :
    shapeCast S6x6144x8x3x4 (extractStridedSlice (s := S6x6144x8x3x4x2) S6x6144x8x3x4x1 off x hs) hc (ix5 b q h l p) = x (i6 b q h l p k) := by
  subst ho
  rw [shapeCast_apply _ hc (ix5 b q h l p) (i6 b q h l p (0 : Fin 1)) (by
    rw [rm6, Shape.rowMajor_val_five]
    show (((((b.val * 6144 + q.val) * 8 + h.val) * 3 + l.val) * 4 + p.val) * 1 + 0) = (((b.val * 6144 + q.val) * 8 + h.val) * 3 + l.val) * 4 + p.val
    omega)]
  exact extractStridedSlice_apply _ x hs _ _ (fun a => match a with
    | ⟨0, _⟩ => (Nat.zero_add _).symm | ⟨1, _⟩ => (Nat.zero_add _).symm | ⟨2, _⟩ => (Nat.zero_add _).symm
    | ⟨3, _⟩ => (Nat.zero_add _).symm | ⟨4, _⟩ => (Nat.zero_add _).symm | ⟨5, _⟩ => rfl)

/-- One corner of the codes, at a point and channel. -/
theorem corn (x : S6x6144x8x3x4x4x32.Idx → α) (off : Fin 7 → Nat) (k : Fin 4) (ho : off = ![0, 0, 0, 0, 0, k.val, 0]) (hs) (hc) :
    shapeCast S6x6144x8x3x4x32 (extractStridedSlice (s := S6x6144x8x3x4x4x32) S6x6144x8x3x4x1x32 off x hs) hc (i6 b q h l p d) = x (i7 b q h l p k d) := by
  subst ho
  rw [shapeCast_apply _ hc (i6 b q h l p d) (i7 b q h l p (0 : Fin 1) d) (by
    rw [rm6, rm7]
    show ((((((b.val * 6144 + q.val) * 8 + h.val) * 3 + l.val) * 4 + p.val) * 1 + 0) * 32 + d.val) = ((((b.val * 6144 + q.val) * 8 + h.val) * 3 + l.val) * 4 + p.val) * 32 + d.val
    omega)]
  exact extractStridedSlice_apply _ x hs _ _ (fun a => match a with
    | ⟨0, _⟩ => (Nat.zero_add _).symm | ⟨1, _⟩ => (Nat.zero_add _).symm | ⟨2, _⟩ => (Nat.zero_add _).symm
    | ⟨3, _⟩ => (Nat.zero_add _).symm | ⟨4, _⟩ => (Nat.zero_add _).symm | ⟨5, _⟩ => rfl | ⟨6, _⟩ => (Nat.zero_add _).symm)

end Cert.RefRead
end
-- ==== Proof.RefRead.lean ====
/-
  What the reference's host operations compute, read at one (batch, query, head, level, point[, channel]) at a time:
  the sampling position, its floor and fractions, and the tests of each corner.
-/
module

public import proofs.«01_k».proof.Proof.RefIdx
public import proofs.«01_k».proof.Proof.Gen.ReferenceIdeal.Run
public import Idealize.ShloMosaic.Lib.Pipeline.Value

@[expose] public section
set_option maxRecDepth 16384
noncomputable section
open Idealize.ShloMosaic Idealize.ShloMosaic.TcCoe Idealize.SL.Sem
namespace Cert.RefRead
open Cert.ReferenceIdeal Cert.ReferenceIdeal.Value Cert.Terms
open Cert.KernelIdeal.Final (cW cH)
open Cert.KernelIdeal.Level (cst)

variable {α : Type} (b : Fin 6) (q : Fin 6144) (h : Fin 8) (l : Fin 3) (p : Fin 4) (d : Fin 32)

variable (V0 : Valuation τ sig (Elt Ideal))

/-- The level of a point. -/
theorem r12 : res_main_v12 V0 (ix5 b q h l p) = BitVec.ofNat 32 l.val := rfl

/-- The height of the point's level. -/
theorem r18 : res_main_v18 V0 (ix5 b q h l p) = cH l := by
  unfold res_main_v18
  show Scalar.select (IntOp.cmpi .eq (res_main_v12 V0 (ix5 b q h l p)) 0#32) (cst 0x42C00000#32)
    (Scalar.select (IntOp.cmpi .eq (res_main_v12 V0 (ix5 b q h l p)) 1#32) (cst 0x42400000#32) (cst 0x41C00000#32)) = _
  rw [r12]
  match l with
  | 0 => rfl
  | 1 => rfl
  | 2 => rfl

/-- The width of the point's level. -/
theorem r24 : res_main_v24 V0 (ix5 b q h l p) = cW l := by
  unfold res_main_v24
  show Scalar.select (IntOp.cmpi .eq (res_main_v12 V0 (ix5 b q h l p)) 0#32) (cst 0x43200000#32)
    (Scalar.select (IntOp.cmpi .eq (res_main_v12 V0 (ix5 b q h l p)) 1#32) (cst 0x42A00000#32) (cst 0x42200000#32)) = _
  rw [r12]
  match l with
  | 0 => rfl
  | 1 => rfl
  | 2 => rfl

/-- A position in cells. -/
def sc (x w : EReal) : EReal := x * w - cst 0x3F000000#32
/-- The two coordinates of the point in cells. -/
def rX : EReal := sc (V0 (Proc.devRef .tc main_arg3) (i6 b q h l p (0 : Fin 2))) (cW l)
/-- The vertical position of a point. -/
def rY : EReal := sc (V0 (Proc.devRef .tc main_arg3) (i6 b q h l p (1 : Fin 2))) (cH l)

/-- The horizontal position. -/
theorem r30 : res_main_v30 V0 (ix5 b q h l p) = rX b q h l p V0 := by
  unfold res_main_v30
  exact congrArg₂ sc (axis b q h l p _ _ 0 rfl _ _) (r24 b q h l p V0)
/-- The vertical position. -/
theorem r36 : res_main_v36 V0 (ix5 b q h l p) = rY b q h l p V0 := by
  unfold res_main_v36
  exact congrArg₂ sc (axis b q h l p _ _ 1 rfl _ _) (r18 b q h l p V0)
/-- The horizontal position's whole part. -/
theorem r37 : res_main_v37 V0 (ix5 b q h l p) = fl (rX b q h l p V0) := congrArg fl (r30 b q h l p V0)
/-- The vertical position's whole part. -/
theorem r38 : res_main_v38 V0 (ix5 b q h l p) = fl (rY b q h l p V0) := congrArg fl (r36 b q h l p V0)
/-- The horizontal position's fraction. -/
theorem r41 : res_main_v41 V0 (i6 b q h l p d) = rX b q h l p V0 - fl (rX b q h l p V0) := by
  unfold res_main_v41
  rw [wide]
  exact congrArg₂ (· - ·) (r30 b q h l p V0) (r37 b q h l p V0)
/-- The vertical position's fraction. -/
theorem r44 : res_main_v44 V0 (i6 b q h l p d) = rY b q h l p V0 - fl (rY b q h l p V0) := by
  unfold res_main_v44
  rw [wide]
  exact congrArg₂ (· - ·) (r36 b q h l p V0) (r38 b q h l p V0)
/-- One less the horizontal fraction. -/
theorem r46 : res_main_v46 V0 (i6 b q h l p d) = o1 - (rX b q h l p V0 - fl (rX b q h l p V0)) := congrArg (o1 - ·) (r41 b q h l p d V0)
/-- One less the vertical fraction. -/
theorem r48 : res_main_v48 V0 (i6 b q h l p d) = o1 - (rY b q h l p V0 - fl (rY b q h l p V0)) := congrArg (o1 - ·) (r44 b q h l p d V0)
/-- The last column. -/
theorem r50 : res_main_v50 V0 (ix5 b q h l p) = cW l - o1 := congrArg (· - o1) (r24 b q h l p V0)
/-- The last row. -/
theorem r52 : res_main_v52 V0 (ix5 b q h l p) = cH l - o1 := congrArg (· - o1) (r18 b q h l p V0)
/-- The patch's first column. -/
theorem r58 : res_main_v58 V0 (ix5 b q h l p) = min (max (fl (rX b q h l p V0)) z0) (cW l - t2) :=
  congrArg₂ (fun x w => min (max x z0) (w - t2)) (r37 b q h l p V0) (r24 b q h l p V0)
/-- The patch's first row. -/
theorem r64 : res_main_v64 V0 (ix5 b q h l p) = min (max (fl (rY b q h l p V0)) z0) (cH l - t2) :=
  congrArg₂ (fun x w => min (max x z0) (w - t2)) (r38 b q h l p V0) (r18 b q h l p V0)
/-- Whether the left column is inside. -/
theorem r69 : res_main_v69 V0 (ix5 b q h l p) = inB (fl (rX b q h l p V0)) (cW l - o1) := congrArg₂ inB (r37 b q h l p V0) (r50 b q h l p V0)
/-- The right column. -/
theorem r76 : res_main_v76 V0 (ix5 b q h l p) = fl (rX b q h l p V0) + o1 := congrArg (· + o1) (r37 b q h l p V0)
/-- Whether the right column is inside. -/
theorem r81 : res_main_v81 V0 (ix5 b q h l p) = inB (fl (rX b q h l p V0) + o1) (cW l - o1) := congrArg₂ inB (r76 b q h l p V0) (r50 b q h l p V0)
/-- Whether the upper row is inside. -/
theorem r91 : res_main_v91 V0 (ix5 b q h l p) = inB (fl (rY b q h l p V0)) (cH l - o1) := congrArg₂ inB (r38 b q h l p V0) (r52 b q h l p V0)
/-- The lower row. -/
theorem r98 : res_main_v98 V0 (ix5 b q h l p) = fl (rY b q h l p V0) + o1 := congrArg (· + o1) (r38 b q h l p V0)
/-- Whether the lower row is inside. -/
theorem r103 : res_main_v103 V0 (ix5 b q h l p) = inB (fl (rY b q h l p V0) + o1) (cH l - o1) := congrArg₂ inB (r98 b q h l p V0) (r52 b q h l p V0)
/-- Whether the left column is the patch's first. -/
theorem r74 : res_main_v74 V0 (ix5 b q h l p) = isF (fl (rX b q h l p V0)) (cW l - o1) (min (max (fl (rX b q h l p V0)) z0) (cW l - t2)) := by
  rw [← r58 b q h l p V0, ← r37 b q h l p V0, ← r50 b q h l p V0]
  rfl
/-- Whether the right column is the patch's first. -/
theorem r86 : res_main_v86 V0 (ix5 b q h l p) = isF (fl (rX b q h l p V0) + o1) (cW l - o1) (min (max (fl (rX b q h l p V0)) z0) (cW l - t2)) := by
  rw [← r58 b q h l p V0, ← r76 b q h l p V0, ← r50 b q h l p V0]
  rfl
/-- Whether the upper row is the patch's first. -/
theorem r96 : res_main_v96 V0 (ix5 b q h l p) = isF (fl (rY b q h l p V0)) (cH l - o1) (min (max (fl (rY b q h l p V0)) z0) (cH l - t2)) := by
  rw [← r64 b q h l p V0, ← r38 b q h l p V0, ← r52 b q h l p V0]
  rfl
/-- Whether the lower row is the patch's first. -/
theorem r108 : res_main_v108 V0 (ix5 b q h l p) = isF (fl (rY b q h l p V0) + o1) (cH l - o1) (min (max (fl (rY b q h l p V0)) z0) (cH l - t2)) := by
  rw [← r64 b q h l p V0, ← r98 b q h l p V0, ← r52 b q h l p V0]
  rfl
/-- The code of patch cell 0. -/
theorem r110 : res_main_v110 V0 (i6 b q h l p d) = res_main_v4 V0 (i7 b q h l p (0 : Fin 4) d) := corn b q h l p d _ _ 0 rfl _ _
/-- The code of patch cell 1. -/
theorem r112 : res_main_v112 V0 (i6 b q h l p d) = res_main_v4 V0 (i7 b q h l p (1 : Fin 4) d) := corn b q h l p d _ _ 1 rfl _ _
/-- The code of patch cell 2. -/
theorem r114 : res_main_v114 V0 (i6 b q h l p d) = res_main_v4 V0 (i7 b q h l p (2 : Fin 4) d) := corn b q h l p d _ _ 2 rfl _ _
/-- The code of patch cell 3. -/
theorem r116 : res_main_v116 V0 (i6 b q h l p d) = res_main_v4 V0 (i7 b q h l p (3 : Fin 4) d) := corn b q h l p d _ _ 3 rfl _ _

end Cert.RefRead
end
-- ==== Proof.RefCorner.lean ====
/-
  The four corners' codes, as the reference selects them.
-/
module

public import proofs.«01_k».proof.Proof.RefRead
public import proofs.«01_k».proof.Proof.Gen.ReferenceIdeal.Run
public import Idealize.ShloMosaic.Lib.Pipeline.Value

@[expose] public section
set_option maxRecDepth 16384
noncomputable section
open Idealize.ShloMosaic Idealize.ShloMosaic.TcCoe Idealize.SL.Sem
namespace Cert.RefRead
open Cert.ReferenceIdeal Cert.ReferenceIdeal.Value Cert.Terms
open Cert.KernelIdeal.Final (cW cH)
open Cert.KernelIdeal.Level (cst)

variable {α : Type} (b : Fin 6) (q : Fin 6144) (h : Fin 8) (l : Fin 3) (p : Fin 4) (d : Fin 32)

variable (V0 : Valuation τ sig (Elt Ideal))

/-- The code of a corner from its four tests. -/
theorem cor_eq (ti tx ty : S6x6144x8x3x4.Idx → BitVec 1) (tj) (y0 y1 y2 y3 : S6x6144x8x3x4x32.Idx → EReal) (w : S6x6144x8x3x4x32.Idx → EReal)
    (hw : w (i6 b q h l p d) = z0) (h1) (h2) :
    (select (broadcastInDim S6x6144x8x3x4x32 ![0, 1, 2, 3, 4, 5] h1 (broadcastInDim (s := S6x6144x8x3x4) S6x6144x8x3x4x1 ![0, 1, 2, 3, 4] h2 (andi ti tj)))
      (select (broadcastInDim S6x6144x8x3x4x32 ![0, 1, 2, 3, 4, 5] h1 (broadcastInDim (s := S6x6144x8x3x4) S6x6144x8x3x4x1 ![0, 1, 2, 3, 4] h2 ty))
        (select (broadcastInDim S6x6144x8x3x4x32 ![0, 1, 2, 3, 4, 5] h1 (broadcastInDim (s := S6x6144x8x3x4) S6x6144x8x3x4x1 ![0, 1, 2, 3, 4] h2 tx)) y0 y1)
        (select (broadcastInDim S6x6144x8x3x4x32 ![0, 1, 2, 3, 4, 5] h1 (broadcastInDim (s := S6x6144x8x3x4) S6x6144x8x3x4x1 ![0, 1, 2, 3, 4] h2 tx)) y2 y3)) w) (i6 b q h l p d)
      = cor (ti (ix5 b q h l p)) (tj (ix5 b q h l p)) (ty (ix5 b q h l p)) (tx (ix5 b q h l p))
          (y0 (i6 b q h l p d)) (y1 (i6 b q h l p d)) (y2 (i6 b q h l p d)) (y3 (i6 b q h l p d)) := by
  unfold cor
  rw [← hw, ← wide b q h l p d tx h1 h2, ← wide b q h l p d ty h1 h2]
  have e := wide b q h l p d (andi ti tj) h1 h2
  rw [show IntOp.andi (ti (ix5 b q h l p)) (tj (ix5 b q h l p)) = andi ti tj (ix5 b q h l p) from rfl, ← e]
  rfl

/-- The code at the upper left corner. -/
theorem r130 : res_main_v130 V0 (i6 b q h l p d) = cor (res_main_v91 V0 (ix5 b q h l p)) (res_main_v69 V0 (ix5 b q h l p)) (res_main_v96 V0 (ix5 b q h l p)) (res_main_v74 V0 (ix5 b q h l p))
    (res_main_v110 V0 (i6 b q h l p d)) (res_main_v112 V0 (i6 b q h l p d)) (res_main_v114 V0 (i6 b q h l p d)) (res_main_v116 V0 (i6 b q h l p d)) := by
  exact cor_eq b q h l p d _ _ _ _ _ _ _ _ _ rfl _ _
/-- The code at the upper right corner. -/
theorem r144 : res_main_v144 V0 (i6 b q h l p d) = cor (res_main_v91 V0 (ix5 b q h l p)) (res_main_v81 V0 (ix5 b q h l p)) (res_main_v96 V0 (ix5 b q h l p)) (res_main_v86 V0 (ix5 b q h l p))
    (res_main_v110 V0 (i6 b q h l p d)) (res_main_v112 V0 (i6 b q h l p d)) (res_main_v114 V0 (i6 b q h l p d)) (res_main_v116 V0 (i6 b q h l p d)) := by
  exact cor_eq b q h l p d _ _ _ _ _ _ _ _ _ rfl _ _
/-- The code at the lower left corner. -/
theorem r158 : res_main_v158 V0 (i6 b q h l p d) = cor (res_main_v103 V0 (ix5 b q h l p)) (res_main_v69 V0 (ix5 b q h l p)) (res_main_v108 V0 (ix5 b q h l p)) (res_main_v74 V0 (ix5 b q h l p))
    (res_main_v110 V0 (i6 b q h l p d)) (res_main_v112 V0 (i6 b q h l p d)) (res_main_v114 V0 (i6 b q h l p d)) (res_main_v116 V0 (i6 b q h l p d)) := by
  exact cor_eq b q h l p d _ _ _ _ _ _ _ _ _ rfl _ _
/-- The code at the lower right corner. -/
theorem r172 : res_main_v172 V0 (i6 b q h l p d) = cor (res_main_v103 V0 (ix5 b q h l p)) (res_main_v81 V0 (ix5 b q h l p)) (res_main_v108 V0 (ix5 b q h l p)) (res_main_v86 V0 (ix5 b q h l p))
    (res_main_v110 V0 (i6 b q h l p d)) (res_main_v112 V0 (i6 b q h l p d)) (res_main_v114 V0 (i6 b q h l p d)) (res_main_v116 V0 (i6 b q h l p d)) := by
  exact cor_eq b q h l p d _ _ _ _ _ _ _ _ _ rfl _ _

end Cert.RefRead
end
-- ==== Proof.RefLay.lean ====
/-
  The reference's codes and scaled gradients read at the arguments, its products over the channels, and its results.
-/
module

public import proofs.«01_k».proof.Proof.RefCorner
public import proofs.«01_k».proof.Proof.Gen.ReferenceIdeal.Run
public import Idealize.ShloMosaic.Lib.Pipeline.Value

@[expose] public section
set_option maxRecDepth 16384
noncomputable section
open Idealize.ShloMosaic Idealize.ShloMosaic.TcCoe Idealize.SL.Sem
namespace Cert.RefRead
open Cert.ReferenceIdeal Cert.ReferenceIdeal.Value Cert.Terms
open Cert.KernelIdeal.Final (cW cH)
open Cert.KernelIdeal.Level (cst)

variable {α : Type} (b : Fin 6) (q : Fin 6144) (h : Fin 8) (l : Fin 3) (p : Fin 4) (d : Fin 32)

variable (V0 : Valuation τ sig (Elt Ideal))

/-- A patch coordinate with the query and the channel split, as the transposed array has them. -/
def j9 (b : Fin 6) (ck : Fin 48) (ln : Fin 128) (h : Fin 8) (l : Fin 3) (p : Fin 4) (k : Fin 4) (g : Fin 8) (c : Fin 4) :
    (⟨9, ![6, 48, 128, 8, 3, 4, 4, 8, 4]⟩ : Shape).Idx := fun a => match a with
  | ⟨0, _⟩ => b
  | ⟨1, _⟩ => ck
  | ⟨2, _⟩ => ln
  | ⟨3, _⟩ => h
  | ⟨4, _⟩ => l
  | ⟨5, _⟩ => p
  | ⟨6, _⟩ => k
  | ⟨7, _⟩ => g
  | ⟨8, _⟩ => c

/-- A patch coordinate as the code words are laid out. -/
def k9 (b : Fin 6) (ck : Fin 48) (ln : Fin 128) (h : Fin 8) (l : Fin 3) (p : Fin 4) (k : Fin 4) (g : Fin 8) (c : Fin 4) :
    (⟨9, ![6, 8, 8, 48, 4, 3, 4, 4, 128]⟩ : Shape).Idx := fun a => match a with
  | ⟨0, _⟩ => b
  | ⟨1, _⟩ => h
  | ⟨2, _⟩ => g
  | ⟨3, _⟩ => ck
  | ⟨4, _⟩ => k
  | ⟨5, _⟩ => l
  | ⟨6, _⟩ => p
  | ⟨7, _⟩ => c
  | ⟨8, _⟩ => ln

/-- The row of the codes' array that holds a channel of a patch. -/
def crow (b : Fin 6) (ck : Fin 48) (h : Fin 8) (l : Fin 3) (p : Fin 4) (k : Fin 4) (g : Fin 8) (c : Fin 4) : Fin 3538944 :=
  ⟨((((((b.val * 8 + h.val) * 8 + g.val) * 48 + ck.val) * 4 + k.val) * 3 + l.val) * 4 + p.val) * 4 + c.val, by omega⟩

/-- The patches' layout, read at a point, a corner and a channel. -/
theorem patch (x : S3538944x128.Idx → α) (h1) (h2) (h3) (ck : Fin 48) (ln : Fin 128) (k : Fin 4) (g : Fin 8) (c : Fin 4) :
    shapeCast S6x6144x8x3x4x4x32 (transpose S6x48x128x8x3x4x4x8x4 [0, 3, 8, 1, 5, 6, 4, 2, 7] (shapeCast (s := S3538944x128) S6x8x8x48x4x3x4x4x128 x h1) h2) h3
      (i7 b ⟨ck.val * 128 + ln.val, by omega⟩ h l p k ⟨4 * g.val + c.val, by omega⟩) = x (ix2 (crow b ck h l p k g c) ln) := by
  rw [shapeCast_apply _ h3 _ (j9 b ck ln h l p k g c) (by
    rw [rm7, rm9]
    show ((((((((b.val * 48 + ck.val) * 128 + ln.val) * 8 + h.val) * 3 + l.val) * 4 + p.val) * 4 + k.val) * 8 + g.val) * 4 + c.val)
      = ((((((b.val * 6144 + (ck.val * 128 + ln.val)) * 8 + h.val) * 3 + l.val) * 4 + p.val) * 4 + k.val) * 32 + (4 * g.val + c.val))
    omega)]
  rw [transpose_apply _ _ h2 (j9 b ck ln h l p k g c) (k9 b ck ln h l p k g c) (fun a => match a with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl | ⟨8, _⟩ => rfl)]
  exact shapeCast_apply x h1 _ _ (by
    rw [rm9, Shape.rowMajor_val_two]
    show (((((((b.val * 8 + h.val) * 8 + g.val) * 48 + ck.val) * 4 + k.val) * 3 + l.val) * 4 + p.val) * 4 + c.val) * 128 + ln.val
      = (((((((b.val * 8 + h.val) * 8 + g.val) * 48 + ck.val) * 4 + k.val) * 3 + l.val) * 4 + p.val) * 4 + c.val) * 128 + ln.val
    rfl)

/-- The code of a point, a corner and a channel. -/
theorem r4 (ck : Fin 48) (ln : Fin 128) (k : Fin 4) (g : Fin 8) (c : Fin 4) :
    res_main_v4 V0 (i7 b ⟨ck.val * 128 + ln.val, by omega⟩ h l p k ⟨4 * g.val + c.val, by omega⟩)
      = V0 (Proc.devRef .tc main_v1) (ix2 (crow b ck h l p k g c) ln) := by
  unfold res_main_v4
  exact patch b h l p _ _ _ _ ck ln k g c

/-- The product of two numbers. -/
abbrev mu (x y : EReal) : EReal := x * y

/-- The gradient codes' layout, read at a query, a head and a channel. -/
theorem glay (x : S48x48x32x128.Idx → α) (h1) (h2) (h3) (ck : Fin 48) (ln : Fin 128) (d : Fin 32) :
    shapeCast S6x6144x8x32 (transpose S6x48x128x8x32 [0, 2, 4, 1, 3] (shapeCast (s := S48x48x32x128) S6x8x48x32x128 x h1) h2) h3
      (ix4 b ⟨ck.val * 128 + ln.val, by omega⟩ h d) = x (ix4 ⟨b.val * 8 + h.val, by omega⟩ ck d ln) := by
  rw [shapeCast_apply _ h3 _ (ix5 b ck ln h d) (by
    rw [Shape.rowMajor_val_five, Shape.rowMajor_val_four]
    show ((((b.val * 48 + ck.val) * 128 + ln.val) * 8 + h.val) * 32 + d.val) = (((b.val * 6144 + (ck.val * 128 + ln.val)) * 8 + h.val) * 32 + d.val)
    omega)]
  rw [transpose_apply _ _ h2 (ix5 b ck ln h d) (ix5 b h ck d ln) (fun a => match a with
    | ⟨0, _⟩ => rfl | ⟨1, _⟩ => rfl | ⟨2, _⟩ => rfl | ⟨3, _⟩ => rfl | ⟨4, _⟩ => rfl)]
  exact shapeCast_apply x h1 _ _ (by
    rw [Shape.rowMajor_val_five, Shape.rowMajor_val_four]
    rfl)

/-- The gradient's scale, spread over heads and channels. -/
theorem gsc (x : S6x6144.Idx → α) (h1) (h2) :
    broadcastInDim S6x6144x8x32 ![0, 1, 2, 3] h1 (broadcastInDim (s := S6x6144) S6x6144x1x1 ![0, 1] h2 x) (ix4 b q h d) = x (ix2 b q) := by
  rw [broadcastInDim_apply _ _ _ _ (ix4 b q 0 0) (fun a => match a with
    | ⟨0, _⟩ => rfl | ⟨1, _⟩ => rfl | ⟨2, _⟩ => rfl | ⟨3, _⟩ => rfl)]
  exact broadcastInDim_apply _ _ _ _ _ (fun a => match a with
    | ⟨0, _⟩ => rfl | ⟨1, _⟩ => rfl)

/-- The scaled gradient of a query, a head and a channel. -/
theorem r11 (ck : Fin 48) (ln : Fin 128) (d : Fin 32) :
    res_main_v11 V0 (ix4 b ⟨ck.val * 128 + ln.val, by omega⟩ h d)
      = mu (V0 (Proc.devRef .tc main_arg1) (ix4 ⟨b.val * 8 + h.val, by omega⟩ ck d ln))
          (V0 (Proc.devRef .tc main_arg5) (ix2 b ⟨ck.val * 128 + ln.val, by omega⟩)) := by
  unfold res_main_v11
  have e : ∀ (u : FVec Ideal S6x6144x8x32 .bf16) (w : FVec Ideal S6x6144x8x32 .f32) (hb) (i), mulf (extf .f32 u hb) w i = mu (u i) (w i) := fun _ _ _ _ => rfl
  rw [e]
  exact congrArg₂ mu (glay b h (V0 (Proc.devRef .tc main_arg1)) _ _ _ ck ln d) (gsc b _ h d (V0 (Proc.devRef .tc main_arg5)) _ _)

/-- A head's scale of the codes, spread over queries and points. -/
theorem vsc (x : S6x3x8.Idx → α) (h1) (h2) (h3) :
    broadcastInDim S6x6144x8x3x4 ![0, 1, 2, 3, 4] h1 (broadcastInDim S6x1x8x3x1 ![0, 2, 3] h2 (transpose (s := S6x3x8) S6x8x3 [0, 2, 1] x h3)) (ix5 b q h l p)
      = x (ix3 b l h) := by
  rw [broadcastInDim_apply _ _ _ _ (ix5 b 0 h l 0) (fun a => match a with
    | ⟨0, _⟩ => rfl | ⟨1, _⟩ => rfl | ⟨2, _⟩ => rfl | ⟨3, _⟩ => rfl | ⟨4, _⟩ => rfl)]
  rw [broadcastInDim_apply _ _ _ _ (ix3 b h l) (fun a => match a with
    | ⟨0, _⟩ => rfl | ⟨1, _⟩ => rfl | ⟨2, _⟩ => rfl)]
  exact transpose_apply _ _ h3 (ix3 b h l) (ix3 b l h) (fun a => match a with
    | ⟨0, _⟩ => rfl | ⟨1, _⟩ => rfl | ⟨2, _⟩ => rfl)

/-- The values' scale of a point. -/
theorem r195 (h1) : broadcastInDim S6x6144x8x3x4 ![0, 1, 2, 3, 4] h1 (res_main_v195 V0) (ix5 b q h l p) = V0 (Proc.devRef .tc main_arg2) (ix3 b l h) := by
  unfold res_main_v195
  exact vsc b q h l p _ _ _ _

end Cert.RefRead
end
-- ==== Proof.RefDot.lean ====
/-
  The reference's products over the channels.
-/
module

public import proofs.«01_k».proof.Proof.RefLay
public import proofs.«01_k».proof.Proof.Gen.ReferenceIdeal.Run
public import Idealize.ShloMosaic.Lib.Pipeline.Value

@[expose] public section
set_option maxRecDepth 16384
noncomputable section
open Idealize.ShloMosaic Idealize.ShloMosaic.TcCoe Idealize.SL.Sem
namespace Cert.RefRead
open Cert.ReferenceIdeal Cert.ReferenceIdeal.Value Cert.Terms
open Cert.KernelIdeal.Final (cW cH)
open Cert.KernelIdeal.Level (cst)

variable {α : Type} (b : Fin 6) (q : Fin 6144) (h : Fin 8) (l : Fin 3) (p : Fin 4) (d : Fin 32)

variable (V0 : Valuation τ sig (Elt Ideal))

/-! The coordinates that the product over the channels reads of its two operands. -/
theorem lhs_0 (i : S6x6144x8x3x4.Idx) (q : dot_S6x6144x8x32_S6x6144x8x3x4x32_S6x6144x8x3x4_3_5_n_34_012_012.contr.Idx) :
    (dot_S6x6144x8x32_S6x6144x8x3x4x32_S6x6144x8x3x4_3_5_n_34_012_012.lhsIdx i q 0).val = (i 0).val := by
  unfold DotDims.lhsIdx
  rw [dif_pos (show (0 : Fin S6x6144x8x32.rank) ∈ dot_S6x6144x8x32_S6x6144x8x3x4x32_S6x6144x8x3x4_3_5_n_34_012_012.lhsBatch by decide)]
  rfl
/-- Axis 1 of the gradient's index in the product. -/
theorem lhs_1 (i : S6x6144x8x3x4.Idx) (q : dot_S6x6144x8x32_S6x6144x8x3x4x32_S6x6144x8x3x4_3_5_n_34_012_012.contr.Idx) :
    (dot_S6x6144x8x32_S6x6144x8x3x4x32_S6x6144x8x3x4_3_5_n_34_012_012.lhsIdx i q 1).val = (i 1).val := by
  unfold DotDims.lhsIdx
  rw [dif_pos (show (1 : Fin S6x6144x8x32.rank) ∈ dot_S6x6144x8x32_S6x6144x8x3x4x32_S6x6144x8x3x4_3_5_n_34_012_012.lhsBatch by decide)]
  rfl
/-- Axis 2 of the gradient's index in the product. -/
theorem lhs_2 (i : S6x6144x8x3x4.Idx) (q : dot_S6x6144x8x32_S6x6144x8x3x4x32_S6x6144x8x3x4_3_5_n_34_012_012.contr.Idx) :
    (dot_S6x6144x8x32_S6x6144x8x3x4x32_S6x6144x8x3x4_3_5_n_34_012_012.lhsIdx i q 2).val = (i 2).val := by
  unfold DotDims.lhsIdx
  rw [dif_pos (show (2 : Fin S6x6144x8x32.rank) ∈ dot_S6x6144x8x32_S6x6144x8x3x4x32_S6x6144x8x3x4_3_5_n_34_012_012.lhsBatch by decide)]
  rfl
/-- Axis 3 of the gradient's index in the product. -/
theorem lhs_3 (i : S6x6144x8x3x4.Idx) (q : dot_S6x6144x8x32_S6x6144x8x3x4x32_S6x6144x8x3x4_3_5_n_34_012_012.contr.Idx) :
    (dot_S6x6144x8x32_S6x6144x8x3x4x32_S6x6144x8x3x4_3_5_n_34_012_012.lhsIdx i q 3).val = (q ⟨0, by decide⟩).val :=
  dot_S6x6144x8x32_S6x6144x8x3x4x32_S6x6144x8x3x4_3_5_n_34_012_012.lhsIdx_val_of_single rfl i q
/-- Axis 0 of the interpolation's index in the product. -/
theorem rhs_0 (i : S6x6144x8x3x4.Idx) (q : dot_S6x6144x8x32_S6x6144x8x3x4x32_S6x6144x8x3x4_3_5_n_34_012_012.contr.Idx) :
    (dot_S6x6144x8x32_S6x6144x8x3x4x32_S6x6144x8x3x4_3_5_n_34_012_012.rhsIdx i q 0).val = (i 0).val := by
  unfold DotDims.rhsIdx
  rw [dif_pos (show (0 : Fin S6x6144x8x3x4x32.rank) ∈ dot_S6x6144x8x32_S6x6144x8x3x4x32_S6x6144x8x3x4_3_5_n_34_012_012.rhsBatch by decide)]
  rfl
/-- Axis 1 of the interpolation's index in the product. -/
theorem rhs_1 (i : S6x6144x8x3x4.Idx) (q : dot_S6x6144x8x32_S6x6144x8x3x4x32_S6x6144x8x3x4_3_5_n_34_012_012.contr.Idx) :
    (dot_S6x6144x8x32_S6x6144x8x3x4x32_S6x6144x8x3x4_3_5_n_34_012_012.rhsIdx i q 1).val = (i 1).val := by
  unfold DotDims.rhsIdx
  rw [dif_pos (show (1 : Fin S6x6144x8x3x4x32.rank) ∈ dot_S6x6144x8x32_S6x6144x8x3x4x32_S6x6144x8x3x4_3_5_n_34_012_012.rhsBatch by decide)]
  rfl
/-- Axis 2 of the interpolation's index in the product. -/
theorem rhs_2 (i : S6x6144x8x3x4.Idx) (q : dot_S6x6144x8x32_S6x6144x8x3x4x32_S6x6144x8x3x4_3_5_n_34_012_012.contr.Idx) :
    (dot_S6x6144x8x32_S6x6144x8x3x4x32_S6x6144x8x3x4_3_5_n_34_012_012.rhsIdx i q 2).val = (i 2).val := by
  unfold DotDims.rhsIdx
  rw [dif_pos (show (2 : Fin S6x6144x8x3x4x32.rank) ∈ dot_S6x6144x8x32_S6x6144x8x3x4x32_S6x6144x8x3x4_3_5_n_34_012_012.rhsBatch by decide)]
  rfl
/-- Axis 3 of the interpolation's index in the product. -/
theorem rhs_3 (i : S6x6144x8x3x4.Idx) (q : dot_S6x6144x8x32_S6x6144x8x3x4x32_S6x6144x8x3x4_3_5_n_34_012_012.contr.Idx) :
    (dot_S6x6144x8x32_S6x6144x8x3x4x32_S6x6144x8x3x4_3_5_n_34_012_012.rhsIdx i q 3).val = (i 3).val := by
  unfold DotDims.rhsIdx
  rw [dif_neg (show ¬(3 : Fin S6x6144x8x3x4x32.rank) ∈ dot_S6x6144x8x32_S6x6144x8x3x4x32_S6x6144x8x3x4_3_5_n_34_012_012.rhsBatch by decide), dif_pos (show (3 : Fin S6x6144x8x3x4x32.rank) ∈ dot_S6x6144x8x32_S6x6144x8x3x4x32_S6x6144x8x3x4_3_5_n_34_012_012.rhsNonContracting by decide)]
  rfl
/-- Axis 4 of the interpolation's index in the product. -/
theorem rhs_4 (i : S6x6144x8x3x4.Idx) (q : dot_S6x6144x8x32_S6x6144x8x3x4x32_S6x6144x8x3x4_3_5_n_34_012_012.contr.Idx) :
    (dot_S6x6144x8x32_S6x6144x8x3x4x32_S6x6144x8x3x4_3_5_n_34_012_012.rhsIdx i q 4).val = (i 4).val := by
  unfold DotDims.rhsIdx
  rw [dif_neg (show ¬(4 : Fin S6x6144x8x3x4x32.rank) ∈ dot_S6x6144x8x32_S6x6144x8x3x4x32_S6x6144x8x3x4_3_5_n_34_012_012.rhsBatch by decide), dif_pos (show (4 : Fin S6x6144x8x3x4x32.rank) ∈ dot_S6x6144x8x32_S6x6144x8x3x4x32_S6x6144x8x3x4_3_5_n_34_012_012.rhsNonContracting by decide)]
  rfl
/-- Axis 5 of the interpolation's index in the product. -/
theorem rhs_5 (i : S6x6144x8x3x4.Idx) (q : dot_S6x6144x8x32_S6x6144x8x3x4x32_S6x6144x8x3x4_3_5_n_34_012_012.contr.Idx) :
    (dot_S6x6144x8x32_S6x6144x8x3x4x32_S6x6144x8x3x4_3_5_n_34_012_012.rhsIdx i q 5).val = (q ⟨0, by decide⟩).val :=
  dot_S6x6144x8x32_S6x6144x8x3x4x32_S6x6144x8x3x4_3_5_n_34_012_012.rhsIdx_val_of_single rfl i q

/-- The product over the channels, at a point. -/
theorem dotr (x : S6x6144x8x32.Idx → EReal) (y : S6x6144x8x3x4x32.Idx → EReal) :
    Host.dotGeneral (F := Ideal) (φ₁ := .f32) (φ₂ := .f32) dot_S6x6144x8x32_S6x6144x8x3x4x32_S6x6144x8x3x4_3_5_n_34_012_012 (some .fp32) x y (ix5 b q h l p)
      = ∑ d : Fin 32, mu (x (ix4 b q h d)) (y (i6 b q h l p d)) := by
  simp only [Host.dotGeneral]
  rw [Ideal.dotGeneral_apply, ← Equiv.sum_comp (ValueIdx.contrEquiv1 dot_S6x6144x8x32_S6x6144x8x3x4x32_S6x6144x8x3x4_3_5_n_34_012_012 32 rfl rfl).symm]
  refine Finset.sum_congr rfl fun k _ => ?_
  have hk := ValueIdx.contrEquiv1_symm_val dot_S6x6144x8x32_S6x6144x8x3x4x32_S6x6144x8x3x4_3_5_n_34_012_012 32 rfl rfl k
  have el : dot_S6x6144x8x32_S6x6144x8x3x4x32_S6x6144x8x3x4_3_5_n_34_012_012.lhsIdx (ix5 b q h l p) ((ValueIdx.contrEquiv1 dot_S6x6144x8x32_S6x6144x8x3x4x32_S6x6144x8x3x4_3_5_n_34_012_012 32 rfl rfl).symm k) = ix4 b q h k := funext fun a => Fin.ext (by
    match a with
    | ⟨0, _⟩ => exact lhs_0 _ _
    | ⟨1, _⟩ => exact lhs_1 _ _
    | ⟨2, _⟩ => exact lhs_2 _ _
    | ⟨3, _⟩ => exact (lhs_3 _ _).trans hk)
  have er : dot_S6x6144x8x32_S6x6144x8x3x4x32_S6x6144x8x3x4_3_5_n_34_012_012.rhsIdx (ix5 b q h l p) ((ValueIdx.contrEquiv1 dot_S6x6144x8x32_S6x6144x8x3x4x32_S6x6144x8x3x4_3_5_n_34_012_012 32 rfl rfl).symm k) = i6 b q h l p k := funext fun a => Fin.ext (by
    match a with
    | ⟨0, _⟩ => exact rhs_0 _ _
    | ⟨1, _⟩ => exact rhs_1 _ _
    | ⟨2, _⟩ => exact rhs_2 _ _
    | ⟨3, _⟩ => exact rhs_3 _ _
    | ⟨4, _⟩ => exact rhs_4 _ _
    | ⟨5, _⟩ => exact (rhs_5 _ _).trans hk)
  rw [el, er]

end Cert.RefRead
end
-- ==== Proof.RefTerms.lean ====
/-
  The reference's selection of the four corners' codes and its three interpolations of them, as functions of numbers.
-/
module

public import proofs.«01_k».proof.Proof.RefIdx

@[expose] public section
noncomputable section
open Idealize.ShloMosaic
namespace Cert.RefRead
open Cert.Terms

/-- The first of the two cells kept along an axis of `w` cells, for a point at `x`. -/
abbrev ft (w x : EReal) : EReal := min (max (fl x) z0) (w - t2)

/-- The code at the corner whose cells are `cy` and `cx`, for a point at `x` and `y`. -/
def at2 (w v x y cx cy p00 p01 p10 p11 : EReal) : EReal :=
  cor (inB cy (v - o1)) (inB cx (w - o1)) (isF cy (v - o1) (ft v y)) (isF cx (w - o1) (ft w x)) p00 p01 p10 p11

/-- The code at each of the four corners of a point. -/
def q00 (w v x y p00 p01 p10 p11 : EReal) : EReal := at2 w v x y (fl x) (fl y) p00 p01 p10 p11
/-- The code at the upper right corner. -/
def q01 (w v x y p00 p01 p10 p11 : EReal) : EReal := at2 w v x y (fl x + o1) (fl y) p00 p01 p10 p11
/-- The code at the lower left corner. -/
def q10 (w v x y p00 p01 p10 p11 : EReal) : EReal := at2 w v x y (fl x) (fl y + o1) p00 p01 p10 p11
/-- The code at the lower right corner. -/
def q11 (w v x y p00 p01 p10 p11 : EReal) : EReal := at2 w v x y (fl x + o1) (fl y + o1) p00 p01 p10 p11

/-- The bilinear interpolation. -/
def sA (w v x y p00 p01 p10 p11 : EReal) : EReal :=
  (o1 - (y - fl y)) * (o1 - (x - fl x)) * q00 w v x y p00 p01 p10 p11 + (o1 - (y - fl y)) * (x - fl x) * q01 w v x y p00 p01 p10 p11
    + (y - fl y) * (o1 - (x - fl x)) * q10 w v x y p00 p01 p10 p11 + (y - fl y) * (x - fl x) * q11 w v x y p00 p01 p10 p11

/-- Its derivative along the first axis. -/
def sX (w v x y p00 p01 p10 p11 : EReal) : EReal :=
  (o1 - (y - fl y)) * (q01 w v x y p00 p01 p10 p11 - q00 w v x y p00 p01 p10 p11)
    + (y - fl y) * (q11 w v x y p00 p01 p10 p11 - q10 w v x y p00 p01 p10 p11)

/-- Its derivative along the second axis. -/
def sY (w v x y p00 p01 p10 p11 : EReal) : EReal :=
  (o1 - (x - fl x)) * (q10 w v x y p00 p01 p10 p11 - q00 w v x y p00 p01 p10 p11)
    + (x - fl x) * (q11 w v x y p00 p01 p10 p11 - q01 w v x y p00 p01 p10 p11)

end Cert.RefRead
end
-- ==== Proof.RefOut.lean ====
/-
  The reference's results, read at an element.
-/
module

public import proofs.«01_k».proof.Proof.RefDot
public import proofs.«01_k».proof.Proof.RefTerms
public import proofs.«01_k».proof.Proof.Gen.ReferenceIdeal.Run
public import Idealize.ShloMosaic.Lib.Pipeline.Value

@[expose] public section
set_option maxRecDepth 16384
noncomputable section
open Idealize.ShloMosaic Idealize.ShloMosaic.TcCoe Idealize.SL.Sem
namespace Cert.RefRead
open Cert.ReferenceIdeal Cert.ReferenceIdeal.Value Cert.Terms
open Cert.KernelIdeal.Final (cW cH)
open Cert.KernelIdeal.Level (cst)

variable {α : Type} (b : Fin 6) (q : Fin 6144) (h : Fin 8) (l : Fin 3) (p : Fin 4) (d : Fin 32)

variable (V0 : Valuation τ sig (Elt Ideal))

/-- The layout of the result that has a value per point. -/
theorem out4 (x : S6x6144x8x3x4.Idx → α) (h1) (h2) :
    shapeCast S48x3x4x6144 (transpose S6x8x3x4x6144 [0, 2, 3, 4, 1] x h1) h2 (ix4 ⟨b.val * 8 + h.val, by omega⟩ l p q) = x (ix5 b q h l p) := by
  rw [shapeCast_apply _ h2 _ (ix5 b h l p q) (by
    rw [Shape.rowMajor_val_five, Shape.rowMajor_val_four]
    rfl)]
  exact transpose_apply _ _ h1 (ix5 b h l p q) (ix5 b q h l p) (fun a => match a with
    | ⟨0, _⟩ => rfl | ⟨1, _⟩ => rfl | ⟨2, _⟩ => rfl | ⟨3, _⟩ => rfl | ⟨4, _⟩ => rfl)

/-- A value of a point, as a member of a pair. -/
theorem one (x : S6x6144x8x3x4.Idx → α) (h1) :
    broadcastInDim S6x6144x8x3x4x1 ![0, 1, 2, 3, 4] h1 x (i6 b q h l p (0 : Fin 1)) = x (ix5 b q h l p) :=
  broadcastInDim_apply _ _ _ _ _ (fun a => match a with
    | ⟨0, _⟩ => rfl | ⟨1, _⟩ => rfl | ⟨2, _⟩ => rfl | ⟨3, _⟩ => rfl | ⟨4, _⟩ => rfl)

/-- A pair's coordinate, as the result has it. -/
def k6 (b : Fin 6) (h : Fin 8) (l : Fin 3) (p : Fin 4) (c : Fin 2) (q : Fin 6144) :
    (⟨6, ![6, 8, 3, 4, 2, 6144]⟩ : Shape).Idx := fun a => match a with
  | ⟨0, _⟩ => b
  | ⟨1, _⟩ => h
  | ⟨2, _⟩ => l
  | ⟨3, _⟩ => p
  | ⟨4, _⟩ => c
  | ⟨5, _⟩ => q

/-- The layout of the result that has a pair per point. -/
theorem out5 (x : S6x6144x8x3x4x2.Idx → α) (h1) (h2) (c : Fin 2) :
    shapeCast S48x3x4x2x6144 (transpose S6x8x3x4x2x6144 [0, 2, 3, 4, 5, 1] x h1) h2 (ix5 ⟨b.val * 8 + h.val, by omega⟩ l p c q) = x (i6 b q h l p c) := by
  rw [shapeCast_apply _ h2 _ (k6 b h l p c q) (by
    rw [rm6, Shape.rowMajor_val_five]
    rfl)]
  exact transpose_apply _ _ h1 (k6 b h l p c q) (i6 b q h l p c) (fun a => match a with
    | ⟨0, _⟩ => rfl | ⟨1, _⟩ => rfl | ⟨2, _⟩ => rfl | ⟨3, _⟩ => rfl | ⟨4, _⟩ => rfl | ⟨5, _⟩ => rfl)

/-- The first member of a pair. -/
theorem fst (x y : S6x6144x8x3x4x1.Idx → α) (h1) :
    concatenate S6x6144x8x3x4x2 5 [⟨S6x6144x8x3x4x1, x⟩, ⟨S6x6144x8x3x4x1, y⟩] h1 (i6 b q h l p (0 : Fin 2)) = x (i6 b q h l p (0 : Fin 1)) :=
  concatenate_pair_apply_left (t := S6x6144x8x3x4x2) (s₁ := S6x6144x8x3x4x1) (s₂ := S6x6144x8x3x4x1) 5 x y h1 _ rfl _ (fun a => match a with
    | ⟨0, _⟩ => rfl | ⟨1, _⟩ => rfl | ⟨2, _⟩ => rfl | ⟨3, _⟩ => rfl | ⟨4, _⟩ => rfl | ⟨5, _⟩ => rfl)

/-- The second member of a pair. -/
theorem snd (x y : S6x6144x8x3x4x1.Idx → α) (h1) :
    concatenate S6x6144x8x3x4x2 5 [⟨S6x6144x8x3x4x1, x⟩, ⟨S6x6144x8x3x4x1, y⟩] h1 (i6 b q h l p (1 : Fin 2)) = y (i6 b q h l p (0 : Fin 1)) :=
  concatenate_pair_apply_right (t := S6x6144x8x3x4x2) (s₁ := S6x6144x8x3x4x1) (s₂ := S6x6144x8x3x4x1) 5 x y h1 _ rfl rfl _ (fun a => match a with
    | ⟨0, _⟩ => fun _ => rfl | ⟨1, _⟩ => fun _ => rfl | ⟨2, _⟩ => fun _ => rfl | ⟨3, _⟩ => fun _ => rfl | ⟨4, _⟩ => fun _ => rfl
    | ⟨5, _⟩ => fun e => absurd rfl e) rfl

end Cert.RefRead
end
-- ==== Proof.Entry.lean ====
/-
  The kernel's operands as its host code lays them out, read at the arrays the caller gives.
-/
module

public import proofs.«01_k».proof.Proof.Arrays
public import proofs.«01_k».proof.Proof.RefOut
public import Idealize.ShloMosaic.Lib.Claim

@[expose] public section
set_option maxRecDepth 16384
noncomputable section
open Idealize.ShloMosaic Idealize.ShloMosaic.TcCoe Idealize.SL.Sem
namespace Cert.KernelIdeal.Final
open Cert.KernelIdeal Cert.KernelIdeal.Gen
open Cert.RefRead (i6 out4 out5)

variable (m : (ℓ : Loc nD τ sig) → Buf (Elt Ideal) ℓ) (d : Dev nD)
variable (b : Fin 6) (q : Fin 6144) (h : Fin 8) (l : Fin 3) (p : Fin 4)

/-- The sampling locations. -/
theorem en1 (c : Fin 2) : V m d main_v1 (ix5 ⟨b.val * 8 + h.val, by omega⟩ l p c q : S48x3x4x2x6144.Idx)
    = m ((d.tc : Thread nD τ).loc main_arg3) (i6 b q h l p c) := by
  entry_read
  exact out5 b q h l p _ _ _ c

/-- The attention weights. -/
theorem en3 : V m d main_v3 (ix4 ⟨b.val * 8 + h.val, by omega⟩ l p q : S48x3x4x6144.Idx)
    = m ((d.tc : Thread nD τ).loc main_arg4) (ix5 b q h l p : S6x6144x8x3x4.Idx) := by
  entry_read
  exact out4 b q h l p _ _ _

/-- The gradient's scale. -/
theorem en4 : V m d main_v4 (ix3 ⟨(b.val * 8 + h.val) / 8 * 48 + q.val / 128, by omega⟩ 0 ⟨q.val % 128, by omega⟩ : S288x1x128.Idx)
    = m ((d.tc : Thread nD τ).loc main_arg5) (ix2 b q : S6x6144.Idx) := by
  entry_read
  refine shapeCast_apply (s := S6x6144) (t := S288x1x128) _ _ _ _ ?_
  rw [Shape.rowMajor_val_two, Shape.rowMajor_val_three]
  show b.val * 6144 + q.val = (((b.val * 8 + h.val) / 8 * 48 + q.val / 128) * 1 + 0) * 128 + q.val % 128
  omega

/-- The code words. -/
theorem en5 (g : Fin 8) (ck : Fin 48) (r : Fin 48) (ln : Fin 128) :
    V m d main_v5 (ix5 ⟨b.val * 8 + h.val, by omega⟩ g ck r ln : S48x8x48x48x128.Idx)
    = m ((d.tc : Thread nD τ).loc main_arg0)
      (ix1 ⟨((((b.val * 8 + h.val) * 8 + g.val) * 48 + ck.val) * 48 + r.val) * 128 + ln.val, by omega⟩ : S113246208.Idx) := by
  entry_read
  refine shapeCast_apply (s := S113246208) (t := S48x8x48x48x128) _ _ _ _ ?_
  rw [Shape.rowMajor_val_one, Shape.rowMajor_val_five]
  rfl

/-- The codes' scales. -/
theorem en7 : V m d main_v7 (ix4 ⟨b.val * 8 + h.val, by omega⟩ l 0 0 : S48x3x1x1.Idx)
    = m ((d.tc : Thread nD τ).loc main_arg2) (ix3 b l h : S6x3x8.Idx) := by
  entry_read
  refine (shapeCast_apply (s := S6x8x3) (t := S48x3x1x1) _ _ _ (ix3 b h l) ?_).trans ?_
  · rw [Shape.rowMajor_val_three, Shape.rowMajor_val_four]
    show (b.val * 8 + h.val) * 3 + l.val = (((b.val * 8 + h.val) * 3 + l.val) * 1 + 0) * 1 + 0
    omega
  · exact transpose_apply _ _ _ (ix3 b h l) (ix3 b l h) (fun a => match a with
      | ⟨0, _⟩ => rfl | ⟨1, _⟩ => rfl | ⟨2, _⟩ => rfl)

end Cert.KernelIdeal.Final
end
-- ==== Proof.Lin.lean ====
/-
  An interpolation of sums is the sum of the interpolations, over reals.
-/
module

public import proofs.«01_k».proof.Proof.RefLay

@[expose] public section
noncomputable section
open Idealize.ShloMosaic
namespace Cert.Lin
open Cert.RefRead

/-- Channel `4 a + c` of 32, from its group and its place in the group. -/
def ch (a : Fin 8) (c : Fin 4) : Fin 32 := ⟨4 * a.val + c.val, by omega⟩

/-- A sum over the channels, group by group. -/
theorem sum_ch {M : Type} [AddCommMonoid M] (F : Fin 32 → M) : ∑ d, F d = ∑ a : Fin 8, ∑ c : Fin 4, F (ch a c) := by
  rw [← Fintype.sum_prod_type' (fun a c => F (ch a c))]
  refine (Fintype.sum_equiv (finProdFinEquiv (m := 8) (n := 4)) _ _ fun x => ?_).symm
  congr 1
  exact Fin.ext (Nat.add_comm _ _)

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inner product of codes and gradient codes over the channels, times the gradient's scale. -/
def dotE (k g : Fin 32 → EReal) (gs : EReal) : EReal := (∑ a : Fin 8, ∑ c : Fin 4, k (ch a c) * g (ch a c)) * gs

/-- The inner product of reals is real. -/
theorem dotE_coe (k g : Fin 32 → ℝ) (gs : ℝ) :
    dotE (fun d => k d) (fun d => g d) gs = ((∑ d, g d * gs * k d : ℝ) : EReal) := by
  unfold dotE
  rw [← sum_ch (fun d => (k d : EReal) * (g d : EReal))]
  simp only [← EReal.coe_mul]
  rw [← coe_sum, ← EReal.coe_mul, Finset.sum_mul]
  congr 1
  exact Finset.sum_congr rfl fun d _ => by ring

/-- The weighted sum over the channels of an interpolation of codes is the interpolation of the inner products. -/
theorem lin (g : Fin 32 → ℝ) (gs : ℝ) (k0 k1 k2 k3 : Fin 32 → ℝ) (a0 a1 b0 b1 : ℝ) :
    (∑ d : Fin 32, mu (mu (g d) gs) (((a0 * (b0 * k0 d + b1 * k1 d) + a1 * (b0 * k2 d + b1 * k3 d) : ℝ) : EReal)))
      = a0 * (b0 * dotE (fun d => k0 d) (fun d => g d) gs + b1 * dotE (fun d => k1 d) (fun d => g d) gs)
        + a1 * (b0 * dotE (fun d => k2 d) (fun d => g d) gs + b1 * dotE (fun d => k3 d) (fun d => g d) gs) := by
  simp only [dotE_coe, mu, ← EReal.coe_mul, ← EReal.coe_add]
  rw [← coe_sum]
  congr 1
  simp only [Finset.mul_sum, ← Finset.sum_add_distrib]
  exact Finset.sum_congr rfl fun d _ => by ring

end Cert.Lin
end
-- ==== Proof.Kern.lean ====
/-
  The kernel's two results as functions of the arrays the caller gives.
-/
module

public import proofs.«01_k».proof.Proof.Entry
public import proofs.«01_k».proof.Proof.Lin
public import proofs.«01_k».proof.Proof.RefRead

@[expose] public section
set_option maxRecDepth 16384
noncomputable section
open Idealize.ShloMosaic Idealize.ShloMosaic.TcCoe Idealize.SL.Sem
namespace Cert.Common
open Cert.Terms Cert.RefRead Cert.Lin Cert.Byte
open Cert.KernelIdeal.Final (cW cH cMx cMy)

variable (r0 : (⟨1, ![113246208]⟩ : Shape).Idx → BitVec 32) (a1 : (⟨4, ![48, 48, 32, 128]⟩ : Shape).Idx → EReal)
variable (a2 : (⟨3, ![6, 3, 8]⟩ : Shape).Idx → EReal) (a3 : (⟨6, ![6, 6144, 8, 3, 4, 2]⟩ : Shape).Idx → EReal)
variable (a4 : (⟨5, ![6, 6144, 8, 3, 4]⟩ : Shape).Idx → EReal) (a5 : (⟨2, ![6, 6144]⟩ : Shape).Idx → EReal)
variable (b : Fin 6) (q : Fin 6144) (h : Fin 8) (l : Fin 3) (p : Fin 4)

/-- The codes of a query and head in row `n` of the 48 rows of cells, by channel. -/
def row (n : Nat) (hn : n < 48) (d : Fin 32) : EReal :=
  code (r0 (ix1 ⟨((((b.val * 8 + h.val) * 8 + d.val / 4) * 48 + q.val / 128) * 48 + n) * 128 + q.val % 128, by omega⟩)) (d.val % 4)

/-- The gradient codes of a query and head, by channel. -/
def grad (d : Fin 32) : EReal := a1 (ix4 ⟨b.val * 8 + h.val, by omega⟩ ⟨q.val / 128, by omega⟩ d ⟨q.val % 128, by omega⟩)

/-- The inner product of the gradient and a corner's codes. -/
def corner (n : Nat) (hn : n ≤ 36) : EReal :=
  dotE (row r0 b q h (n + 4 * l.val + p.val) (by omega)) (grad a1 b q h) (a5 (ix2 b q))

/-- The gradient of an attention weight. -/
def attn : EReal :=
  pAttn (cMx l) (cMy l) (sc (a3 (i6 b q h l p (0 : Fin 2))) (cW l)) (sc (a3 (i6 b q h l p (1 : Fin 2))) (cH l)) (a2 (ix3 b l h))
    (corner r0 a1 a5 b q h l p 0 (by decide)) (corner r0 a1 a5 b q h l p 12 (by decide))
    (corner r0 a1 a5 b q h l p 24 (by decide)) (corner r0 a1 a5 b q h l p 36 (by decide))

/-- The gradient of a position's first coordinate. -/
def locx : EReal :=
  pX (cMx l) (cMy l) (sc (a3 (i6 b q h l p (0 : Fin 2))) (cW l)) (sc (a3 (i6 b q h l p (1 : Fin 2))) (cH l)) (a2 (ix3 b l h))
    (a4 (ix5 b q h l p)) (cW l)
    (corner r0 a1 a5 b q h l p 0 (by decide)) (corner r0 a1 a5 b q h l p 12 (by decide))
    (corner r0 a1 a5 b q h l p 24 (by decide)) (corner r0 a1 a5 b q h l p 36 (by decide))

/-- The gradient of a position's second coordinate. -/
def locy : EReal :=
  pY (cMx l) (cMy l) (sc (a3 (i6 b q h l p (0 : Fin 2))) (cW l)) (sc (a3 (i6 b q h l p (1 : Fin 2))) (cH l)) (a2 (ix3 b l h))
    (a4 (ix5 b q h l p)) (cH l)
    (corner r0 a1 a5 b q h l p 0 (by decide)) (corner r0 a1 a5 b q h l p 12 (by decide))
    (corner r0 a1 a5 b q h l p 24 (by decide)) (corner r0 a1 a5 b q h l p 36 (by decide))

end Cert.Common

namespace Cert.KernelIdeal.Final
open Cert.KernelIdeal Cert.KernelIdeal.Gen Cert.Terms Cert.RefRead Cert.Lin Cert.Common

variable (m : (ℓ : Loc nD τ sig) → Buf (Elt Ideal) ℓ) (d : Dev nD)
variable (b : Fin 6) (q : Fin 6144) (h : Fin 8) (l : Fin 3) (p : Fin 4)

/-- The kernel's inner product for a corner. -/
theorem corner_eq (n : Nat) (hn : n ≤ 36) :
    kE (V m d main_v5) (V m d main_arg1) (V m d main_v4) ⟨b.val * 8 + h.val, by omega⟩ l p q n hn
      = corner (m ((d.tc : Thread nD τ).loc main_arg0)) (m ((d.tc : Thread nD τ).loc main_arg1)) (m ((d.tc : Thread nD τ).loc main_arg5)) b q h l p n hn := by
  unfold kE kD corner dotE
  refine congrArg₂ (· * ·) (Finset.sum_congr rfl fun a _ => Finset.sum_congr rfl fun c _ => congrArg₂ (· * ·) ?_ ?_) ?_
  · rw [en5]
    unfold row
    have e1 : (ch a c).val / 4 = a.val := by show (4 * a.val + c.val) / 4 = a.val; omega
    have e2 : (ch a c).val % 4 = c.val := by show (4 * a.val + c.val) % 4 = c.val; omega
    simp only [e1, e2]
  · rw [V_main_arg1]
    rfl
  · exact en4 m d b q h

/-- The kernel's gradient of an attention weight. -/
theorem attn_arr : (dats m 0 d).arrAt 7 cfg0.N (ix4 ⟨b.val * 8 + h.val, by omega⟩ l p q : S48x3x4x6144.Idx)
    = attn (m ((d.tc : Thread nD τ).loc main_arg0)) (m ((d.tc : Thread nD τ).loc main_arg1)) (m ((d.tc : Thread nD τ).loc main_arg2))
        (m ((d.tc : Thread nD τ).loc main_arg3)) (m ((d.tc : Thread nD τ).loc main_arg5)) b q h l p := by
  rw [arr7]
  show kAttn _ _ _ _ _ (⟨b.val * 8 + h.val, by omega⟩ : Fin 48) l p q = _
  unfold kAttn attn
  rw [corner_eq, corner_eq, corner_eq, corner_eq, en1, en1, en7]
  rfl

/-- The kernel's gradient of a position's first coordinate. -/
theorem locx_arr : (dats m 0 d).arrAt 6 cfg0.N (ix5 ⟨b.val * 8 + h.val, by omega⟩ l p 0 q : S48x3x4x2x6144.Idx)
    = locx (m ((d.tc : Thread nD τ).loc main_arg0)) (m ((d.tc : Thread nD τ).loc main_arg1)) (m ((d.tc : Thread nD τ).loc main_arg2))
        (m ((d.tc : Thread nD τ).loc main_arg3)) (m ((d.tc : Thread nD τ).loc main_arg4)) (m ((d.tc : Thread nD τ).loc main_arg5)) b q h l p := by
  rw [arr6]
  show kX _ _ _ _ _ _ (⟨b.val * 8 + h.val, by omega⟩ : Fin 48) l p q = _
  unfold kX locx
  rw [corner_eq, corner_eq, corner_eq, corner_eq, en1, en1, en7, en3]
  rfl

/-- The kernel's gradient of a position's second coordinate. -/
theorem locy_arr : (dats m 0 d).arrAt 6 cfg0.N (ix5 ⟨b.val * 8 + h.val, by omega⟩ l p 1 q : S48x3x4x2x6144.Idx)
    = locy (m ((d.tc : Thread nD τ).loc main_arg0)) (m ((d.tc : Thread nD τ).loc main_arg1)) (m ((d.tc : Thread nD τ).loc main_arg2))
        (m ((d.tc : Thread nD τ).loc main_arg3)) (m ((d.tc : Thread nD τ).loc main_arg4)) (m ((d.tc : Thread nD τ).loc main_arg5)) b q h l p := by
  rw [arr6]
  show kY _ _ _ _ _ _ (⟨b.val * 8 + h.val, by omega⟩ : Fin 48) l p q = _
  unfold kY locy
  rw [corner_eq, corner_eq, corner_eq, corner_eq, en1, en1, en7, en3]
  rfl

end Cert.KernelIdeal.Final
end
-- ==== Proof.RefSum.lean ====
/-
  The reference's corner codes and its interpolations of them, read at a channel.
-/
module

public import proofs.«01_k».proof.Proof.RefLay
public import proofs.«01_k».proof.Proof.RefTerms
public import proofs.«01_k».proof.Proof.Gen.ReferenceIdeal.Run
public import Idealize.ShloMosaic.Lib.Pipeline.Value

@[expose] public section
set_option maxRecDepth 16384
noncomputable section
open Idealize.ShloMosaic Idealize.ShloMosaic.TcCoe Idealize.SL.Sem
namespace Cert.RefRead
open Cert.ReferenceIdeal Cert.ReferenceIdeal.Value Cert.Terms
open Cert.KernelIdeal.Final (cW cH)
open Cert.KernelIdeal.Level (cst)

variable {α : Type} (b : Fin 6) (q : Fin 6144) (h : Fin 8) (l : Fin 3) (p : Fin 4) (d : Fin 32)

variable (V0 : Valuation τ sig (Elt Ideal))

/-! The codes of the four corners of a point. -/
theorem q130 : res_main_v130 V0 (i6 b q h l p d) = q00 (cW l) (cH l) (rX b q h l p V0) (rY b q h l p V0) (res_main_v4 V0 (i7 b q h l p 0 d)) (res_main_v4 V0 (i7 b q h l p 1 d)) (res_main_v4 V0 (i7 b q h l p 2 d)) (res_main_v4 V0 (i7 b q h l p 3 d)) := by
  rw [r130, r91, r69, r96, r74, r110, r112, r114, r116]
  rfl
/-- The code at the upper right corner. -/
theorem q144 : res_main_v144 V0 (i6 b q h l p d) = q01 (cW l) (cH l) (rX b q h l p V0) (rY b q h l p V0) (res_main_v4 V0 (i7 b q h l p 0 d)) (res_main_v4 V0 (i7 b q h l p 1 d)) (res_main_v4 V0 (i7 b q h l p 2 d)) (res_main_v4 V0 (i7 b q h l p 3 d)) := by
  rw [r144, r91, r81, r96, r86, r110, r112, r114, r116]
  rfl
/-- The code at the lower left corner. -/
theorem q158 : res_main_v158 V0 (i6 b q h l p d) = q10 (cW l) (cH l) (rX b q h l p V0) (rY b q h l p V0) (res_main_v4 V0 (i7 b q h l p 0 d)) (res_main_v4 V0 (i7 b q h l p 1 d)) (res_main_v4 V0 (i7 b q h l p 2 d)) (res_main_v4 V0 (i7 b q h l p 3 d)) := by
  rw [r158, r103, r69, r108, r74, r110, r112, r114, r116]
  rfl
/-- The code at the lower right corner. -/
theorem q172 : res_main_v172 V0 (i6 b q h l p d) = q11 (cW l) (cH l) (rX b q h l p V0) (rY b q h l p V0) (res_main_v4 V0 (i7 b q h l p 0 d)) (res_main_v4 V0 (i7 b q h l p 1 d)) (res_main_v4 V0 (i7 b q h l p 2 d)) (res_main_v4 V0 (i7 b q h l p 3 d)) := by
  rw [r172, r103, r81, r108, r86, r110, r112, r114, r116]
  rfl

/-! The three interpolations, read at an element. -/
theorem eA (a b c d w0 w1 w2 w3 : FVec Ideal S6x6144x8x3x4x32 .f32) (i) : (addf (addf (addf (mulf (mulf a b) w0) (mulf (mulf a c) w1)) (mulf (mulf d b) w2)) (mulf (mulf d c) w3)) i
    = mu (mu (a i) (b i)) (w0 i) + mu (mu (a i) (c i)) (w1 i) + mu (mu (d i) (b i)) (w2 i) + mu (mu (d i) (c i)) (w3 i) := rfl
/-- The elements of a weighted sum of two differences. -/
theorem eX (a b w0 w1 w2 w3 : FVec Ideal S6x6144x8x3x4x32 .f32) (i) : (addf (mulf a (subf w0 w1)) (mulf b (subf w2 w3))) i
    = mu (a i) (w0 i - w1 i) + mu (b i) (w2 i - w3 i) := rfl

/-! The reference's three interpolations, of a channel. -/
theorem sumA : (addf (addf (addf (mulf (mulf (res_main_v48 V0) (res_main_v46 V0)) (res_main_v130 V0)) (mulf (mulf (res_main_v48 V0) (res_main_v41 V0)) (res_main_v144 V0))) (mulf (mulf (res_main_v44 V0) (res_main_v46 V0)) (res_main_v158 V0))) (mulf (mulf (res_main_v44 V0) (res_main_v41 V0)) (res_main_v172 V0))) (i6 b q h l p d)
    = sA (cW l) (cH l) (rX b q h l p V0) (rY b q h l p V0) (res_main_v4 V0 (i7 b q h l p 0 d)) (res_main_v4 V0 (i7 b q h l p 1 d)) (res_main_v4 V0 (i7 b q h l p 2 d)) (res_main_v4 V0 (i7 b q h l p 3 d)) := by
  rw [eA, q130, q144, q158, q172, r46, r48, r41, r44]
  rfl
/-- The derivative along the first axis. -/
theorem sumX : (addf (mulf (res_main_v48 V0) (subf (res_main_v144 V0) (res_main_v130 V0))) (mulf (res_main_v44 V0) (subf (res_main_v172 V0) (res_main_v158 V0)))) (i6 b q h l p d)
    = sX (cW l) (cH l) (rX b q h l p V0) (rY b q h l p V0) (res_main_v4 V0 (i7 b q h l p 0 d)) (res_main_v4 V0 (i7 b q h l p 1 d)) (res_main_v4 V0 (i7 b q h l p 2 d)) (res_main_v4 V0 (i7 b q h l p 3 d)) := by
  rw [eX, q130, q144, q158, q172, r48, r44]
  rfl
/-- The derivative along the second axis. -/
theorem sumY : (addf (mulf (res_main_v46 V0) (subf (res_main_v158 V0) (res_main_v130 V0))) (mulf (res_main_v41 V0) (subf (res_main_v172 V0) (res_main_v144 V0)))) (i6 b q h l p d)
    = sY (cW l) (cH l) (rX b q h l p V0) (rY b q h l p V0) (res_main_v4 V0 (i7 b q h l p 0 d)) (res_main_v4 V0 (i7 b q h l p 1 d)) (res_main_v4 V0 (i7 b q h l p 2 d)) (res_main_v4 V0 (i7 b q h l p 3 d)) := by
  rw [eX, q130, q144, q158, q172, r46, r41]
  rfl

end Cert.RefRead
end
-- ==== Proof.RefRes.lean ====
/-
  The reference's two results, read at an element.
-/
module

public import proofs.«01_k».proof.Proof.RefOut
public import proofs.«01_k».proof.Proof.RefSum
public import proofs.«01_k».proof.Proof.RefTerms
public import proofs.«01_k».proof.Proof.Gen.ReferenceIdeal.Run
public import Idealize.ShloMosaic.Lib.Pipeline.Value

@[expose] public section
set_option maxRecDepth 16384
noncomputable section
open Idealize.ShloMosaic Idealize.ShloMosaic.TcCoe Idealize.SL.Sem
namespace Cert.RefRead
open Cert.ReferenceIdeal Cert.ReferenceIdeal.Gen Cert.ReferenceIdeal.Value Cert.Terms
open Cert.KernelIdeal.Final (cW cH)
open Cert.KernelIdeal.Level (cst)

variable {α : Type} (b : Fin 6) (q : Fin 6144) (h : Fin 8) (l : Fin 3) (p : Fin 4) (d : Fin 32)

variable (V0 : Valuation τ sig (Elt Ideal))

/-- The gradient along the attention weight, of a point. -/
theorem res4 : (shapeCast S48x3x4x6144 (transpose S6x8x3x4x6144 [0, 2, 3, 4, 1] (mulf (broadcastInDim S6x6144x8x3x4 ![0, 1, 2, 3, 4] bcast_S6x1x8x3x1_S6x6144x8x3x4_0_1_2_3_4 (res_main_v195 V0)) (Host.dotGeneral (φ₁ := .f32) (φ₂ := .f32) dot_S6x6144x8x32_S6x6144x8x3x4x32_S6x6144x8x3x4_3_5_n_34_012_012 (some .fp32) (res_main_v11 V0) (addf (addf (addf (mulf (mulf (res_main_v48 V0) (res_main_v46 V0)) (res_main_v130 V0)) (mulf (mulf (res_main_v48 V0) (res_main_v41 V0)) (res_main_v144 V0))) (mulf (mulf (res_main_v44 V0) (res_main_v46 V0)) (res_main_v158 V0))) (mulf (mulf (res_main_v44 V0) (res_main_v41 V0)) (res_main_v172 V0))))) transposes_S6x6144x8x3x4_S6x8x3x4x6144_0_2_3_4_1) shapeCasts_S6x8x3x4x6144_S48x3x4x6144) (ix4 ⟨b.val * 8 + h.val, by omega⟩ l p q)
    = mu (V0 (Proc.devRef .tc main_arg2) (ix3 b l h)) (∑ d : Fin 32, mu (res_main_v11 V0 (ix4 b q h d)) (sA (cW l) (cH l) (rX b q h l p V0) (rY b q h l p V0) (res_main_v4 V0 (i7 b q h l p 0 d)) (res_main_v4 V0 (i7 b q h l p 1 d)) (res_main_v4 V0 (i7 b q h l p 2 d)) (res_main_v4 V0 (i7 b q h l p 3 d)))) := by
  rw [out4 b q h l p]
  exact congrArg₂ mu (r195 b q h l p V0 _) ((dotr b q h l p _ _).trans (Finset.sum_congr rfl fun d _ => congrArg (mu _) (sumA b q h l p d V0)))

/-- The gradient along the first location coordinate, of a point. -/
theorem res5x : (shapeCast S48x3x4x2x6144 (transpose S6x8x3x4x2x6144 [0, 2, 3, 4, 5, 1] (concatenate S6x6144x8x3x4x2 5 [⟨S6x6144x8x3x4x1, (broadcastInDim S6x6144x8x3x4x1 ![0, 1, 2, 3, 4] bcast_S6x6144x8x3x4_S6x6144x8x3x4x1_0_1_2_3_4 (mulf (mulf (mulf (broadcastInDim S6x6144x8x3x4 ![0, 1, 2, 3, 4] bcast_S6x1x8x3x1_S6x6144x8x3x4_0_1_2_3_4 (res_main_v195 V0)) (Host.dotGeneral (φ₁ := .f32) (φ₂ := .f32) dot_S6x6144x8x32_S6x6144x8x3x4x32_S6x6144x8x3x4_3_5_n_34_012_012 (some .fp32) (res_main_v11 V0) (addf (mulf (res_main_v48 V0) (subf (res_main_v144 V0) (res_main_v130 V0))) (mulf (res_main_v44 V0) (subf (res_main_v172 V0) (res_main_v158 V0)))))) (V0 (Proc.devRef .tc main_arg4))) (id (res_main_v24 V0))))⟩, ⟨S6x6144x8x3x4x1, (broadcastInDim S6x6144x8x3x4x1 ![0, 1, 2, 3, 4] bcast_S6x6144x8x3x4_S6x6144x8x3x4x1_0_1_2_3_4 (mulf (mulf (mulf (broadcastInDim S6x6144x8x3x4 ![0, 1, 2, 3, 4] bcast_S6x1x8x3x1_S6x6144x8x3x4_0_1_2_3_4 (res_main_v195 V0)) (Host.dotGeneral (φ₁ := .f32) (φ₂ := .f32) dot_S6x6144x8x32_S6x6144x8x3x4x32_S6x6144x8x3x4_3_5_n_34_012_012 (some .fp32) (res_main_v11 V0) (addf (mulf (res_main_v46 V0) (subf (res_main_v158 V0) (res_main_v130 V0))) (mulf (res_main_v41 V0) (subf (res_main_v172 V0) (res_main_v144 V0)))))) (V0 (Proc.devRef .tc main_arg4))) (id (res_main_v18 V0))))⟩] concatenates_S6x6144x8x3x4x1_S6x6144x8x3x4x1_S6x6144x8x3x4x2_d5) transposes_S6x6144x8x3x4x2_S6x8x3x4x2x6144_0_2_3_4_5_1) shapeCasts_S6x8x3x4x2x6144_S48x3x4x2x6144) (ix5 ⟨b.val * 8 + h.val, by omega⟩ l p 0 q)
    = mu (mu (mu (V0 (Proc.devRef .tc main_arg2) (ix3 b l h)) (∑ d : Fin 32, mu (res_main_v11 V0 (ix4 b q h d)) (sX (cW l) (cH l) (rX b q h l p V0) (rY b q h l p V0) (res_main_v4 V0 (i7 b q h l p 0 d)) (res_main_v4 V0 (i7 b q h l p 1 d)) (res_main_v4 V0 (i7 b q h l p 2 d)) (res_main_v4 V0 (i7 b q h l p 3 d))))) (V0 (Proc.devRef .tc main_arg4) (ix5 b q h l p))) (cW l) := by
  rw [out5 b q h l p, fst, one]
  exact congrArg₂ mu (congrArg₂ mu (congrArg₂ mu (r195 b q h l p V0 _)
    ((dotr b q h l p _ _).trans (Finset.sum_congr rfl fun d _ => congrArg (mu _) (sumX b q h l p d V0)))) rfl) (r24 b q h l p V0)

/-- The gradient along the second location coordinate, of a point. -/
theorem res5y : (shapeCast S48x3x4x2x6144 (transpose S6x8x3x4x2x6144 [0, 2, 3, 4, 5, 1] (concatenate S6x6144x8x3x4x2 5 [⟨S6x6144x8x3x4x1, (broadcastInDim S6x6144x8x3x4x1 ![0, 1, 2, 3, 4] bcast_S6x6144x8x3x4_S6x6144x8x3x4x1_0_1_2_3_4 (mulf (mulf (mulf (broadcastInDim S6x6144x8x3x4 ![0, 1, 2, 3, 4] bcast_S6x1x8x3x1_S6x6144x8x3x4_0_1_2_3_4 (res_main_v195 V0)) (Host.dotGeneral (φ₁ := .f32) (φ₂ := .f32) dot_S6x6144x8x32_S6x6144x8x3x4x32_S6x6144x8x3x4_3_5_n_34_012_012 (some .fp32) (res_main_v11 V0) (addf (mulf (res_main_v48 V0) (subf (res_main_v144 V0) (res_main_v130 V0))) (mulf (res_main_v44 V0) (subf (res_main_v172 V0) (res_main_v158 V0)))))) (V0 (Proc.devRef .tc main_arg4))) (id (res_main_v24 V0))))⟩, ⟨S6x6144x8x3x4x1, (broadcastInDim S6x6144x8x3x4x1 ![0, 1, 2, 3, 4] bcast_S6x6144x8x3x4_S6x6144x8x3x4x1_0_1_2_3_4 (mulf (mulf (mulf (broadcastInDim S6x6144x8x3x4 ![0, 1, 2, 3, 4] bcast_S6x1x8x3x1_S6x6144x8x3x4_0_1_2_3_4 (res_main_v195 V0)) (Host.dotGeneral (φ₁ := .f32) (φ₂ := .f32) dot_S6x6144x8x32_S6x6144x8x3x4x32_S6x6144x8x3x4_3_5_n_34_012_012 (some .fp32) (res_main_v11 V0) (addf (mulf (res_main_v46 V0) (subf (res_main_v158 V0) (res_main_v130 V0))) (mulf (res_main_v41 V0) (subf (res_main_v172 V0) (res_main_v144 V0)))))) (V0 (Proc.devRef .tc main_arg4))) (id (res_main_v18 V0))))⟩] concatenates_S6x6144x8x3x4x1_S6x6144x8x3x4x1_S6x6144x8x3x4x2_d5) transposes_S6x6144x8x3x4x2_S6x8x3x4x2x6144_0_2_3_4_5_1) shapeCasts_S6x8x3x4x2x6144_S48x3x4x2x6144) (ix5 ⟨b.val * 8 + h.val, by omega⟩ l p 1 q)
    = mu (mu (mu (V0 (Proc.devRef .tc main_arg2) (ix3 b l h)) (∑ d : Fin 32, mu (res_main_v11 V0 (ix4 b q h d)) (sY (cW l) (cH l) (rX b q h l p V0) (rY b q h l p V0) (res_main_v4 V0 (i7 b q h l p 0 d)) (res_main_v4 V0 (i7 b q h l p 1 d)) (res_main_v4 V0 (i7 b q h l p 2 d)) (res_main_v4 V0 (i7 b q h l p 3 d))))) (V0 (Proc.devRef .tc main_arg4) (ix5 b q h l p))) (cH l) := by
  rw [out5 b q h l p, snd, one]
  exact congrArg₂ mu (congrArg₂ mu (congrArg₂ mu (r195 b q h l p V0 _)
    ((dotr b q h l p _ _).trans (Finset.sum_congr rfl fun d _ => congrArg (mu _) (sumY b q h l p d V0)))) rfl) (r18 b q h l p V0)

end Cert.RefRead
end
-- ==== Proof.RefCodes.lean ====
/-
  The reference's array of codes: each row of words read as four rows of codes.
-/
module

public import proofs.«01_k».proof.Proof.Byte
public import proofs.«01_k».proof.Proof.Gen.ReferenceIdeal.Frame
public import Idealize.ShloMosaic.Lib.Pipeline.ValueKit.Geometry
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.ReferenceIdeal.Codes
open Cert.ReferenceIdeal Cert.ReferenceIdeal.Gen Cert.Byte

/-- The whole array of codes, of the rows of words. -/
def codes (w : Vec Ideal S884736x128 .i32) : Vec Ideal S3538944x128 .f32 := fun i =>
  code (w (ix2 ⟨(i 0).val / 4, by have : (i 0).val < 3538944 := (i 0).isLt; omega⟩ (i 1))) ((i 0).val % 4)

/-- What the kernel body stores. -/
theorem out (w : Vec Ideal S884736x128 .i32) : out0_1 w = codes w := by
  unfold out0_1
  rw [View.canon_cons_unit_lit _ _ _ (by decide), View.ld_unit_lit _ _ (by decide)]
  funext i
  obtain ⟨a, l, rfl⟩ : ∃ (a : Fin 3538944) (l : Fin 128), i = ix2 a l := ⟨i 0, i 1, by funext a; match a with | ⟨0, _⟩ => rfl | ⟨1, _⟩ => rfl⟩
  unfold k0_pay1 codes
  show Ideal.ofBits .fp8e4m3 _ = Ideal.ofBits .fp8e4m3 _
  rw [shapeCast_self]
  exact congrArg (Ideal.ofBits .fp8e4m3) (bitcast_32_8 w _ a l ⟨a.val / 4, by omega⟩ rfl)

variable (m : (ℓ : Loc nD τ sig) → Buf (Elt Ideal) ℓ) (d : Dev nD)

/-- The one grid point has the whole array of words. -/
theorem idx0 : ∀ t : Fin grid0.N, win0_0.index t = ![0, 0] := by decide +kernel
/-- The block the kernel body reads is the whole array of words. -/
theorem rd0 (t : Fin cfg0.N) (a : Fin 884736) (l : Fin 128) :
    iblk m d 0 t (ix2 a l : S884736x128.Idx) = V m d main_v0 (ix2 a l : S884736x128.Idx) := by
  blk_ext [iblk, idx0 t]

/-- Every index of the array of codes. -/
theorem ix (y : S3538944x128.Idx) : ∃ (a : Fin 3538944) (l : Fin 128), y = ix2 a l :=
  ⟨y 0, y 1, by funext a; match a with | ⟨0, _⟩ => rfl | ⟨1, _⟩ => rfl⟩

/-- The block written back. -/
theorem blk (t : Fin cfg0.N) (a : Fin 3538944) (l : Fin 128) :
    out0_1 (iblk m d 0 t) (ix2 a l) = codes (V m d main_v0) (ix2 a l) := by
  rw [out]
  unfold codes
  exact congrArg (fun u => code u (a.val % 4)) (rd0 m d t ⟨a.val / 4, by omega⟩ l)

/-- The region's one grid point. -/
def t0 : Fin cfg0.N := ⟨0, by decide⟩

/-- At it the whole array of codes is written back. -/
theorem whole : (cfg0.win 1).WholeAt t0 := by decide +kernel

/-- The whole block. -/
theorem blk_eq : out0_1 (iblk m d 0 t0) = codes (V m d main_v0) := by
  funext y
  obtain ⟨a, l, rfl⟩ := ix y
  exact blk m d t0 a l

/-- The array of codes after the region. -/
theorem arr : (dats m 0 d).arrAt 1 cfg0.N = codes (V m d main_v0) := by
  refine (dats m 0 d).arrAt_eq_of_after_last 1 t0 whole _ fun j => ?_
  rw [after0_1, blk_eq]
  generalize codes (V m d main_v0) = G
  rfl

/-- The rows of words, read at the array the caller gives. -/
theorem words (r : Fin 884736) (l : Fin 128) :
    V m d main_v0 (ix2 r l : S884736x128.Idx) = m ((d.tc : Thread nD τ).loc main_arg0) (ix1 ⟨r.val * 128 + l.val, by omega⟩ : S113246208.Idx) := by
  entry_read
  refine shapeCast_apply (s := S113246208) (t := S884736x128) _ _ _ _ ?_
  rw [Shape.rowMajor_val_two, Shape.rowMajor_val_one]
  rfl

end Cert.ReferenceIdeal.Codes
end
-- ==== Proof.Axis.lean ====
/-
  The four ways a sample's position can lie along an axis of a level: off the level, between two of its cells, one
  cell before the first, or on the last cell.
-/
module

public import proofs.«01_k».proof.Proof.RefTerms

@[expose] public section
noncomputable section
open Idealize.ShloMosaic
namespace Cert.Axis
open Cert.Terms Cert.RefRead

/-- A whole number as an extended real. -/
def e (z : ℤ) : EReal := ((z : ℝ) : EReal)

/-- The sum of two whole numbers. -/
theorem e_add (a b : ℤ) : e a + e b = e (a + b) := by simp [e]
/-- The difference of two whole numbers. -/
theorem e_sub (a b : ℤ) : e a - e b = e (a - b) := by simp [e]
/-- Whole numbers are ordered as the extended reals they are. -/
theorem e_le (a b : ℤ) : e a ≤ e b ↔ a ≤ b := by simp [e]
/-- Whole numbers are equal when their extended reals are. -/
theorem e_inj (a b : ℤ) : e a = e b ↔ a = b := by simp [e]
/-- The lesser of two whole numbers. -/
theorem e_min (a b : ℤ) : min (e a) (e b) = e (min a b) := by
  rcases le_total a b with h | h
  · rw [min_eq_left h, min_eq_left ((e_le a b).2 h)]
  · rw [min_eq_right h, min_eq_right ((e_le b a).2 h)]
/-- The greater of two whole numbers. -/
theorem e_max (a b : ℤ) : max (e a) (e b) = e (max a b) := by
  rcases le_total a b with h | h
  · rw [max_eq_right h, max_eq_right ((e_le a b).2 h)]
  · rw [max_eq_left h, max_eq_left ((e_le b a).2 h)]
/-- Zero is a whole number. -/
theorem e_zero : (0 : EReal) = e 0 := by simp [e]
/-- One is a whole number. -/
theorem e_one : (1 : EReal) = e 1 := by simp [e]

/-- The constant 0.0 denotes zero. -/
theorem z0_eq : z0 = 0 := by simp [z0, Ideal.ofBits, Ideal.ieee]
/-- The constant 1.0 denotes one. -/
theorem o1_eq : o1 = 1 := by simp [o1, Ideal.ofBits, Ideal.ieee]
/-- The constant 2.0 denotes two. -/
theorem t2_eq : t2 = e 2 := by simp [t2, e, Ideal.ofBits, Ideal.ieee, -EReal.coe_mul]; norm_num

/-- Whether a cell is on the level, of whole numbers. -/
theorem inB_e (c L : ℤ) : inB (e c) (e L) = if 0 ≤ c ∧ c ≤ L then 1#1 else 0#1 := by
  unfold inB
  rw [z0_eq, e_zero]
  simp only [Ideal.cmp, e_le]
  by_cases h1 : 0 ≤ c <;> by_cases h2 : c ≤ L <;> simp [h1, h2, IntOp.andi]

/-- Whether a cell is the first of the two kept, of whole numbers. -/
theorem isF_e (c L F : ℤ) : isF (e c) (e L) (e F) = if min (max c 0) L = F then 1#1 else 0#1 := by
  unfold isF
  rw [z0_eq, e_zero, e_max, e_min]
  simp only [Ideal.cmp, e_inj]
  by_cases h : min (max c 0) L = F <;> simp [h]

/-- The case a position falls in: the tests of its two cells, the fraction and the four weights. -/
inductive Case (w M x : EReal) : Prop
  | out (a : inB (fl x) (w - o1) = 0#1) (b : inB (fl x + o1) (w - o1) = 0#1)
      (u0 : ax0 M x = 0) (u1 : ax1 M x = 0) (d0 : ds0 M x = 0) (d1 : ds1 M x = 0)
  | mid (f : ℝ) (hf : x - fl x = f) (a : inB (fl x) (w - o1) = 1#1) (b : inB (fl x + o1) (w - o1) = 1#1)
      (c : isF (fl x) (w - o1) (ft w x) = 1#1) (d : isF (fl x + o1) (w - o1) (ft w x) = 0#1)
      (u0 : ax0 M x = ((1 - f : ℝ) : EReal)) (u1 : ax1 M x = f) (d0 : ds0 M x = ((-1 : ℝ) : EReal)) (d1 : ds1 M x = 1)
  | lo (f : ℝ) (hf : x - fl x = f) (a : inB (fl x) (w - o1) = 0#1) (b : inB (fl x + o1) (w - o1) = 1#1)
      (d : isF (fl x + o1) (w - o1) (ft w x) = 1#1)
      (u0 : ax0 M x = f) (u1 : ax1 M x = 0) (d0 : ds0 M x = 1) (d1 : ds1 M x = 0)
  | hi (f : ℝ) (hf : x - fl x = f) (a : inB (fl x) (w - o1) = 1#1) (b : inB (fl x + o1) (w - o1) = 0#1)
      (c : isF (fl x) (w - o1) (ft w x) = 0#1)
      (u0 : ax0 M x = 0) (u1 : ax1 M x = ((1 - f : ℝ) : EReal)) (d0 : ds0 M x = 0) (d1 : ds1 M x = ((-1 : ℝ) : EReal))

/-- The weights at a position whose whole part is `k`. -/
theorem weights (n k : ℤ) (f : ℝ) (x : EReal) (hk : fl x = e k) (hf : x - fl x = f) :
    ax0 (e (n - 2)) x = (if k = min (n - 2) (max 0 k) then ((1 - f : ℝ) : EReal) else if k = min (n - 2) (max 0 k) - 1 then (f : EReal) else 0)
    ∧ ax1 (e (n - 2)) x = (if k = min (n - 2) (max 0 k) then (f : EReal) else if k = min (n - 2) (max 0 k) + 1 then ((1 - f : ℝ) : EReal) else 0)
    ∧ ds0 (e (n - 2)) x = (if k = min (n - 2) (max 0 k) then ((-1 : ℝ) : EReal) else if k = min (n - 2) (max 0 k) - 1 then 1 else 0)
    ∧ ds1 (e (n - 2)) x = (if k = min (n - 2) (max 0 k) then 1 else if k = min (n - 2) (max 0 k) + 1 then ((-1 : ℝ) : EReal) else 0) := by
  have hax : ax (e (n - 2)) x = e (min (n - 2) (max 0 k)) := by
    unfold ax
    rw [hk, e_zero, e_max, e_min]
  have h1 : (1 : EReal) - (f : EReal) = ((1 - f : ℝ) : EReal) := by simp
  have h2 : (0 : EReal) - 1 = ((-1 : ℝ) : EReal) := by simp
  have hm : e (min (n - 2) (max 0 k)) - 1 = e (min (n - 2) (max 0 k) - 1) := by rw [e_one, e_sub]
  have hp : e (min (n - 2) (max 0 k)) + 1 = e (min (n - 2) (max 0 k) + 1) := by rw [e_one, e_add]
  unfold ax0 ax1 ds0 ds1
  rw [hax, hf, hk, hm, hp, h1, h2]
  simp only [e_inj]
  exact ⟨trivial, trivial, trivial, trivial⟩

/-- Minus infinity is off every level. -/
theorem case_bot (n : ℤ) (hn : 2 ≤ n) : Case (e n) (e (n - 2)) ⊥ := by
  have hf : fl ⊥ = ⊥ := rfl
  have hax : ax (e (n - 2)) ⊥ = e 0 := by
    unfold ax
    rw [hf, max_eq_left bot_le, e_zero, e_min]
    congr 1
    omega
  have h0 : (⊥ : EReal) ≠ e 0 := EReal.bot_ne_coe _
  have h1 : (⊥ : EReal) ≠ e 0 - 1 := by rw [e_one, e_sub]; exact EReal.bot_ne_coe _
  have h2 : (⊥ : EReal) ≠ e 0 + 1 := by rw [e_one, e_add]; exact EReal.bot_ne_coe _
  have hb (L : EReal) : inB ⊥ L = 0#1 := by
    unfold inB
    rw [z0_eq, e_zero]
    simp [Ideal.cmp, e, IntOp.andi]
  refine .out ?_ ?_ ?_ ?_ ?_ ?_
  · rw [hf, hb]
  · rw [hf, EReal.bot_add, hb]
  · unfold ax0; rw [hf, hax, if_neg h0, if_neg h1]
  · unfold ax1; rw [hf, hax, if_neg h0, if_neg h2]
  · unfold ds0; rw [hf, hax, if_neg h0, if_neg h1]
  · unfold ds1; rw [hf, hax, if_neg h0, if_neg h2]

/-- Infinity is off every level. -/
theorem case_top (n : ℤ) : Case (e n) (e (n - 2)) ⊤ := by
  have hl : e n - o1 = e (n - 1) := by rw [o1_eq, e_one, e_sub]
  have hf : fl ⊤ = ⊤ := rfl
  have hax : ax (e (n - 2)) ⊤ = e (n - 2) := by
    unfold ax
    rw [hf, max_eq_right le_top, min_eq_left le_top]
  have h0 : (⊤ : EReal) ≠ e (n - 2) := (EReal.coe_ne_top _).symm
  have h1 : (⊤ : EReal) ≠ e (n - 2) - 1 := by rw [e_one, e_sub]; exact (EReal.coe_ne_top _).symm
  have h2 : (⊤ : EReal) ≠ e (n - 2) + 1 := by rw [e_one, e_add]; exact (EReal.coe_ne_top _).symm
  have hb : inB ⊤ (e (n - 1)) = 0#1 := by
    unfold inB
    have : ¬ (⊤ : EReal) ≤ e (n - 1) := fun h => EReal.coe_ne_top _ (top_le_iff.1 h)
    simp [Ideal.cmp, this, IntOp.andi]
  have h3 : (⊤ : EReal) + 1 = ⊤ := EReal.top_add_coe 1
  refine .out ?_ ?_ ?_ ?_ ?_ ?_
  · rw [hf, hl, hb]
  · rw [hf, hl, o1_eq, h3, hb]
  · unfold ax0; rw [hf, hax, if_neg h0, if_neg h1]
  · unfold ax1; rw [hf, hax, if_neg h0, if_neg h2]
  · unfold ds0; rw [hf, hax, if_neg h0, if_neg h1]
  · unfold ds1; rw [hf, hax, if_neg h0, if_neg h2]

/-- A position whose whole part is `k` falls in one of the four cases. -/
theorem case_real (n : ℤ) (hn : 2 ≤ n) (k : ℤ) (f : ℝ) (x : EReal) (hk : fl x = e k) (hf : x - fl x = f) : Case (e n) (e (n - 2)) x := by
  have hl : e n - o1 = e (n - 1) := by rw [o1_eq, e_one, e_sub]
  have hF : ft (e n) x = e (min (max k 0) (n - 2)) := by
    unfold ft
    rw [t2_eq, e_sub, hk, z0_eq, e_zero, e_max, e_min]
  have hk1 : fl x + o1 = e (k + 1) := by rw [hk, o1_eq, e_one, e_add]
  obtain ⟨u0, u1, d0, d1⟩ := weights n k f x hk hf
  have a := inB_e k (n - 1)
  have b := inB_e (k + 1) (n - 1)
  have c := isF_e k (n - 1) (min (max k 0) (n - 2))
  have d := isF_e (k + 1) (n - 1) (min (max k 0) (n - 2))
  rw [← hl, ← hk] at a
  rw [← hl, ← hk1] at b
  rw [← hl, ← hk, ← hF] at c
  rw [← hl, ← hk1, ← hF] at d
  by_cases h1 : k < -1 ∨ n - 1 < k
  · rw [if_neg (by omega)] at a b
    rw [if_neg (by omega), if_neg (by omega)] at u0 u1 d0 d1
    exact .out a b u0 u1 d0 d1
  by_cases h2 : k = -1
  · rw [if_neg (by omega)] at a
    rw [if_pos (by omega)] at b d
    rw [if_neg (by omega), if_pos (by omega)] at u0 d0
    rw [if_neg (by omega), if_neg (by omega)] at u1 d1
    exact .lo f hf a b d u0 u1 d0 d1
  by_cases h3 : k = n - 1
  · rw [if_pos (by omega)] at a
    rw [if_neg (by omega)] at b c
    rw [if_neg (by omega), if_neg (by omega)] at u0 d0
    rw [if_neg (by omega), if_pos (by omega)] at u1 d1
    exact .hi f hf a b c u0 u1 d0 d1
  · rw [if_pos (by omega)] at a b c
    rw [if_neg (by omega)] at d
    rw [if_pos (by omega)] at u0 u1 d0 d1
    exact .mid f hf a b c d u0 u1 d0 d1

/-- Every position falls in one of the four cases. -/
theorem case (n : ℤ) (hn : 2 ≤ n) (x : EReal) : Case (e n) (e (n - 2)) x := by
  induction x using EReal.rec with
  | bot => exact case_bot n hn
  | top => exact case_top n
  | coe r =>
    refine case_real n hn ⌊r⌋ (r - ⌊r⌋) r rfl ?_
    rw [EReal.coe_sub]
    rfl

end Cert.Axis
end
-- ==== Proof.Point.lean ====
/-
  The reference's interpolations at one channel, written with the kernel's weights of the two cells of each axis.
-/
module

public import proofs.«01_k».proof.Proof.Axis

@[expose] public section
noncomputable section
open Idealize.ShloMosaic
namespace Cert.Point
open Cert.Terms Cert.RefRead Cert.Axis

/-- Both tests hold. -/
theorem and11 : IntOp.andi (1#1) (1#1) = 1#1 := rfl
/-- Only the first test holds. -/
theorem and10 : IntOp.andi (1#1) (0#1) = 0#1 := rfl
/-- Only the second test holds. -/
theorem and01 : IntOp.andi (0#1) (1#1) = 0#1 := rfl
/-- Neither test holds. -/
theorem and00 : IntOp.andi (0#1) (0#1) = 0#1 := rfl
/-- The selection when the test holds. -/
theorem sel1 (a b : EReal) : Scalar.select (1#1) a b = a := rfl
/-- The selection when the test fails. -/
theorem sel0 (a b : EReal) : Scalar.select (0#1) a b = b := rfl

/-- The weights of both axes are real, and the three interpolations are those of the kernel. -/
theorem point (w Mx x v My y : EReal) (hx : Case w Mx x) (hy : Case v My y) :
    ∃ u0 u1 d0 d1 : ℝ, ax0 Mx x = u0 ∧ ax1 Mx x = u1 ∧ ds0 Mx x = d0 ∧ ds1 Mx x = d1 ∧
    ∃ t0 t1 e0 e1 : ℝ, ax0 My y = t0 ∧ ax1 My y = t1 ∧ ds0 My y = e0 ∧ ds1 My y = e1 ∧
    ∀ c0 c1 c2 c3 : ℝ,
      sA w v x y c0 c1 c2 c3 = ((t0 * (u0 * c0 + u1 * c1) + t1 * (u0 * c2 + u1 * c3) : ℝ) : EReal) ∧
      sX w v x y c0 c1 c2 c3 = ((t0 * (d0 * c0 + d1 * c1) + t1 * (d0 * c2 + d1 * c3) : ℝ) : EReal) ∧
      sY w v x y c0 c1 c2 c3 = ((e0 * (u0 * c0 + u1 * c1) + e1 * (u0 * c2 + u1 * c3) : ℝ) : EReal) := by
  rcases hx with ⟨hxa, hxb, hxu0, hxu1, hxd0, hxd1⟩ | ⟨f, hxf, hxa, hxb, hxc, hxd, hxu0, hxu1, hxd0, hxd1⟩ | ⟨f, hxf, hxa, hxb, hxd, hxu0, hxu1, hxd0, hxd1⟩ | ⟨f, hxf, hxa, hxb, hxc, hxu0, hxu1, hxd0, hxd1⟩
  · -- out
    refine ⟨0, 0, 0, 0, by simp [hxu0], by simp [hxu1], by simp [hxd0], by simp [hxd1], ?_⟩
    rcases hy with ⟨hya, hyb, hyu0, hyu1, hyd0, hyd1⟩ | ⟨g, hyf, hya, hyb, hyc, hyd, hyu0, hyu1, hyd0, hyd1⟩ | ⟨g, hyf, hya, hyb, hyd, hyu0, hyu1, hyd0, hyd1⟩ | ⟨g, hyf, hya, hyb, hyc, hyu0, hyu1, hyd0, hyd1⟩
    · refine ⟨0, 0, 0, 0, by simp [hyu0], by simp [hyu1], by simp [hyd0], by simp [hyd1], fun c0 c1 c2 c3 => ⟨?_, ?_, ?_⟩⟩
      · simp only [sA, q00, q01, q10, q11, at2, cor, and11, and10, and01, and00, sel0, sel1, hxa, hxb, hya, hyb]
        simp [z0_eq]
      · simp only [sX, q00, q01, q10, q11, at2, cor, and11, and10, and01, and00, sel0, sel1, hxa, hxb, hya, hyb]
        simp [z0_eq]
      · simp only [sY, q00, q01, q10, q11, at2, cor, and11, and10, and01, and00, sel0, sel1, hxa, hxb, hya, hyb]
        simp [z0_eq]
    · refine ⟨1 - g, g, -1, 1, by simp [hyu0], by simp [hyu1], by simp [hyd0], by simp [hyd1], fun c0 c1 c2 c3 => ⟨?_, ?_, ?_⟩⟩
      · simp only [sA, q00, q01, q10, q11, at2, cor, and11, and10, and01, and00, sel0, sel1, hxa, hxb, hyf, hya, hyb, hyc, hyd]
        simp [z0_eq]
      · simp only [sX, q00, q01, q10, q11, at2, cor, and11, and10, and01, and00, sel0, sel1, hxa, hxb, hyf, hya, hyb, hyc, hyd]
        simp [z0_eq]
      · simp only [sY, q00, q01, q10, q11, at2, cor, and11, and10, and01, and00, sel0, sel1, hxa, hxb, hyf, hya, hyb, hyc, hyd]
        simp [z0_eq]
    · refine ⟨g, 0, 1, 0, by simp [hyu0], by simp [hyu1], by simp [hyd0], by simp [hyd1], fun c0 c1 c2 c3 => ⟨?_, ?_, ?_⟩⟩
      · simp only [sA, q00, q01, q10, q11, at2, cor, and11, and10, and01, and00, sel0, sel1, hxa, hxb, hyf, hya, hyb, hyd]
        simp [z0_eq]
      · simp only [sX, q00, q01, q10, q11, at2, cor, and11, and10, and01, and00, sel0, sel1, hxa, hxb, hyf, hya, hyb, hyd]
        simp [z0_eq]
      · simp only [sY, q00, q01, q10, q11, at2, cor, and11, and10, and01, and00, sel0, sel1, hxa, hxb, hyf, hya, hyb, hyd]
        simp [z0_eq]
    · refine ⟨0, 1 - g, 0, -1, by simp [hyu0], by simp [hyu1], by simp [hyd0], by simp [hyd1], fun c0 c1 c2 c3 => ⟨?_, ?_, ?_⟩⟩
      · simp only [sA, q00, q01, q10, q11, at2, cor, and11, and10, and01, and00, sel0, sel1, hxa, hxb, hyf, hya, hyb, hyc]
        simp [z0_eq]
      · simp only [sX, q00, q01, q10, q11, at2, cor, and11, and10, and01, and00, sel0, sel1, hxa, hxb, hyf, hya, hyb, hyc]
        simp [z0_eq]
      · simp only [sY, q00, q01, q10, q11, at2, cor, and11, and10, and01, and00, sel0, sel1, hxa, hxb, hyf, hya, hyb, hyc]
        simp [z0_eq]
  · -- mid
    refine ⟨1 - f, f, -1, 1, by simp [hxu0], by simp [hxu1], by simp [hxd0], by simp [hxd1], ?_⟩
    rcases hy with ⟨hya, hyb, hyu0, hyu1, hyd0, hyd1⟩ | ⟨g, hyf, hya, hyb, hyc, hyd, hyu0, hyu1, hyd0, hyd1⟩ | ⟨g, hyf, hya, hyb, hyd, hyu0, hyu1, hyd0, hyd1⟩ | ⟨g, hyf, hya, hyb, hyc, hyu0, hyu1, hyd0, hyd1⟩
    · refine ⟨0, 0, 0, 0, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxc, hxd, hya, hyb]
        simp [z0_eq]
      · simp only [sX, q00, q01, q10, q11, at2, cor, and11, and10, and01, and00, sel0, sel1, hxf, hxa, hxb, hxc, hxd, hya, hyb]
        simp [z0_eq]
      · simp only [sY, q00, q01, q10, q11, at2, cor, and11, and10, and01, and00, sel0, sel1, hxf, hxa, hxb, hxc, hxd, hya, hyb]
        simp [z0_eq]
    · refine ⟨1 - g, g, -1, 1, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxc, hxd, hyf, hya, hyb, hyc, hyd]
        simp only [z0_eq, o1_eq]
        simp only [← EReal.coe_zero, ← EReal.coe_one, ← EReal.coe_sub, ← EReal.coe_mul, ← EReal.coe_add, EReal.coe_eq_coe_iff]
        ring
      · simp only [sX, q00, q01, q10, q11, at2, cor, and11, and10, and01, and00, sel0, sel1, hxf, hxa, hxb, hxc, hxd, hyf, hya, hyb, hyc, hyd]
        simp only [z0_eq, o1_eq]
        simp only [← EReal.coe_zero, ← EReal.coe_one, ← EReal.coe_sub, ← EReal.coe_mul, ← EReal.coe_add, EReal.coe_eq_coe_iff]
        ring
      · simp only [sY, q00, q01, q10, q11, at2, cor, and11, and10, and01, and00, sel0, sel1, hxf, hxa, hxb, hxc, hxd, hyf, hya, hyb, hyc, hyd]
        simp only [z0_eq, o1_eq]
        simp only [← EReal.coe_zero, ← EReal.coe_one, ← EReal.coe_sub, ← EReal.coe_mul, ← EReal.coe_add, EReal.coe_eq_coe_iff]
        ring
    · refine ⟨g, 0, 1, 0, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxc, hxd, hyf, hya, hyb, hyd]
        simp only [z0_eq, o1_eq]
        simp only [← EReal.coe_zero, ← EReal.coe_one, ← EReal.coe_sub, ← EReal.coe_mul, ← EReal.coe_add, EReal.coe_eq_coe_iff]
        ring
      · simp only [sX, q00, q01, q10, q11, at2, cor, and11, and10, and01, and00, sel0, sel1, hxf, hxa, hxb, hxc, hxd, hyf, hya, hyb, hyd]
        simp only [z0_eq, o1_eq]
        simp only [← EReal.coe_zero, ← EReal.coe_one, ← EReal.coe_sub, ← EReal.coe_mul, ← EReal.coe_add, EReal.coe_eq_coe_iff]
        ring
      · simp only [sY, q00, q01, q10, q11, at2, cor, and11, and10, and01, and00, sel0, sel1, hxf, hxa, hxb, hxc, hxd, hyf, hya, hyb, hyd]
        simp only [z0_eq, o1_eq]
        simp only [← EReal.coe_zero, ← EReal.coe_one, ← EReal.coe_sub, ← EReal.coe_mul, ← EReal.coe_add, EReal.coe_eq_coe_iff]
        ring
    · refine ⟨0, 1 - g, 0, -1, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxc, hxd, hyf, hya, hyb, hyc]
        simp only [z0_eq, o1_eq]
        simp only [← EReal.coe_zero, ← EReal.coe_one, ← EReal.coe_sub, ← EReal.coe_mul, ← EReal.coe_add, EReal.coe_eq_coe_iff]
        ring
      · simp only [sX, q00, q01, q10, q11, at2, cor, and11, and10, and01, and00, sel0, sel1, hxf, hxa, hxb, hxc, hxd, hyf, hya, hyb, hyc]
        simp only [z0_eq, o1_eq]
        simp only [← EReal.coe_zero, ← EReal.coe_one, ← EReal.coe_sub, ← EReal.coe_mul, ← EReal.coe_add, EReal.coe_eq_coe_iff]
        ring
      · simp only [sY, q00, q01, q10, q11, at2, cor, and11, and10, and01, and00, sel0, sel1, hxf, hxa, hxb, hxc, hxd, hyf, hya, hyb, hyc]
        simp only [z0_eq, o1_eq]
        simp only [← EReal.coe_zero, ← EReal.coe_one, ← EReal.coe_sub, ← EReal.coe_mul, ← EReal.coe_add, EReal.coe_eq_coe_iff]
        ring
  · -- lo
    refine ⟨f, 0, 1, 0, by simp [hxu0], by simp [hxu1], by simp [hxd0], by simp [hxd1], ?_⟩
    rcases hy with ⟨hya, hyb, hyu0, hyu1, hyd0, hyd1⟩ | ⟨g, hyf, hya, hyb, hyc, hyd, hyu0, hyu1, hyd0, hyd1⟩ | ⟨g, hyf, hya, hyb, hyd, hyu0, hyu1, hyd0, hyd1⟩ | ⟨g, hyf, hya, hyb, hyc, hyu0, hyu1, hyd0, hyd1⟩
    · refine ⟨0, 0, 0, 0, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxd, hya, hyb]
        simp [z0_eq]
      · simp only [sX, q00, q01, q10, q11, at2, cor, and11, and10, and01, and00, sel0, sel1, hxf, hxa, hxb, hxd, hya, hyb]
        simp [z0_eq]
      · simp only [sY, q00, q01, q10, q11, at2, cor, and11, and10, and01, and00, sel0, sel1, hxf, hxa, hxb, hxd, hya, hyb]
        simp [z0_eq]
    · refine ⟨1 - g, g, -1, 1, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxd, hyf, hya, hyb, hyc, hyd]
        simp only [z0_eq, o1_eq]
        simp only [← EReal.coe_zero, ← EReal.coe_one, ← EReal.coe_sub, ← EReal.coe_mul, ← EReal.coe_add, EReal.coe_eq_coe_iff]
        ring
      · simp only [sX, q00, q01, q10, q11, at2, cor, and11, and10, and01, and00, sel0, sel1, hxf, hxa, hxb, hxd, hyf, hya, hyb, hyc, hyd]
        simp only [z0_eq, o1_eq]
        simp only [← EReal.coe_zero, ← EReal.coe_one, ← EReal.coe_sub, ← EReal.coe_mul, ← EReal.coe_add, EReal.coe_eq_coe_iff]
        ring
      · simp only [sY, q00, q01, q10, q11, at2, cor, and11, and10, and01, and00, sel0, sel1, hxf, hxa, hxb, hxd, hyf, hya, hyb, hyc, hyd]
        simp only [z0_eq, o1_eq]
        simp only [← EReal.coe_zero, ← EReal.coe_one, ← EReal.coe_sub, ← EReal.coe_mul, ← EReal.coe_add, EReal.coe_eq_coe_iff]
        ring
    · refine ⟨g, 0, 1, 0, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxd, hyf, hya, hyb, hyd]
        simp only [z0_eq, o1_eq]
        simp only [← EReal.coe_zero, ← EReal.coe_one, ← EReal.coe_sub, ← EReal.coe_mul, ← EReal.coe_add, EReal.coe_eq_coe_iff]
        ring
      · simp only [sX, q00, q01, q10, q11, at2, cor, and11, and10, and01, and00, sel0, sel1, hxf, hxa, hxb, hxd, hyf, hya, hyb, hyd]
        simp only [z0_eq, o1_eq]
        simp only [← EReal.coe_zero, ← EReal.coe_one, ← EReal.coe_sub, ← EReal.coe_mul, ← EReal.coe_add, EReal.coe_eq_coe_iff]
        ring
      · simp only [sY, q00, q01, q10, q11, at2, cor, and11, and10, and01, and00, sel0, sel1, hxf, hxa, hxb, hxd, hyf, hya, hyb, hyd]
        simp only [z0_eq, o1_eq]
        simp only [← EReal.coe_zero, ← EReal.coe_one, ← EReal.coe_sub, ← EReal.coe_mul, ← EReal.coe_add, EReal.coe_eq_coe_iff]
        ring
    · refine ⟨0, 1 - g, 0, -1, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxd, hyf, hya, hyb, hyc]
        simp only [z0_eq, o1_eq]
        simp only [← EReal.coe_zero, ← EReal.coe_one, ← EReal.coe_sub, ← EReal.coe_mul, ← EReal.coe_add, EReal.coe_eq_coe_iff]
        ring
      · simp only [sX, q00, q01, q10, q11, at2, cor, and11, and10, and01, and00, sel0, sel1, hxf, hxa, hxb, hxd, hyf, hya, hyb, hyc]
        simp only [z0_eq, o1_eq]
        simp only [← EReal.coe_zero, ← EReal.coe_one, ← EReal.coe_sub, ← EReal.coe_mul, ← EReal.coe_add, EReal.coe_eq_coe_iff]
        ring
      · simp only [sY, q00, q01, q10, q11, at2, cor, and11, and10, and01, and00, sel0, sel1, hxf, hxa, hxb, hxd, hyf, hya, hyb, hyc]
        simp only [z0_eq, o1_eq]
        simp only [← EReal.coe_zero, ← EReal.coe_one, ← EReal.coe_sub, ← EReal.coe_mul, ← EReal.coe_add, EReal.coe_eq_coe_iff]
        ring
  · -- hi
    refine ⟨0, 1 - f, 0, -1, by simp [hxu0], by simp [hxu1], by simp [hxd0], by simp [hxd1], ?_⟩
    rcases hy with ⟨hya, hyb, hyu0, hyu1, hyd0, hyd1⟩ | ⟨g, hyf, hya, hyb, hyc, hyd, hyu0, hyu1, hyd0, hyd1⟩ | ⟨g, hyf, hya, hyb, hyd, hyu0, hyu1, hyd0, hyd1⟩ | ⟨g, hyf, hya, hyb, hyc, hyu0, hyu1, hyd0, hyd1⟩
    · refine ⟨0, 0, 0, 0, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxc, hya, hyb]
        simp [z0_eq]
      · simp only [sX, q00, q01, q10, q11, at2, cor, and11, and10, and01, and00, sel0, sel1, hxf, hxa, hxb, hxc, hya, hyb]
        simp [z0_eq]
      · simp only [sY, q00, q01, q10, q11, at2, cor, and11, and10, and01, and00, sel0, sel1, hxf, hxa, hxb, hxc, hya, hyb]
        simp [z0_eq]
    · refine ⟨1 - g, g, -1, 1, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxc, hyf, hya, hyb, hyc, hyd]
        simp only [z0_eq, o1_eq]
        simp only [← EReal.coe_zero, ← EReal.coe_one, ← EReal.coe_sub, ← EReal.coe_mul, ← EReal.coe_add, EReal.coe_eq_coe_iff]
        ring
      · simp only [sX, q00, q01, q10, q11, at2, cor, and11, and10, and01, and00, sel0, sel1, hxf, hxa, hxb, hxc, hyf, hya, hyb, hyc, hyd]
        simp only [z0_eq, o1_eq]
        simp only [← EReal.coe_zero, ← EReal.coe_one, ← EReal.coe_sub, ← EReal.coe_mul, ← EReal.coe_add, EReal.coe_eq_coe_iff]
        ring
      · simp only [sY, q00, q01, q10, q11, at2, cor, and11, and10, and01, and00, sel0, sel1, hxf, hxa, hxb, hxc, hyf, hya, hyb, hyc, hyd]
        simp only [z0_eq, o1_eq]
        simp only [← EReal.coe_zero, ← EReal.coe_one, ← EReal.coe_sub, ← EReal.coe_mul, ← EReal.coe_add, EReal.coe_eq_coe_iff]
        ring
    · refine ⟨g, 0, 1, 0, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxc, hyf, hya, hyb, hyd]
        simp only [z0_eq, o1_eq]
        simp only [← EReal.coe_zero, ← EReal.coe_one, ← EReal.coe_sub, ← EReal.coe_mul, ← EReal.coe_add, EReal.coe_eq_coe_iff]
        ring
      · simp only [sX, q00, q01, q10, q11, at2, cor, and11, and10, and01, and00, sel0, sel1, hxf, hxa, hxb, hxc, hyf, hya, hyb, hyd]
        simp only [z0_eq, o1_eq]
        simp only [← EReal.coe_zero, ← EReal.coe_one, ← EReal.coe_sub, ← EReal.coe_mul, ← EReal.coe_add, EReal.coe_eq_coe_iff]
        ring
      · simp only [sY, q00, q01, q10, q11, at2, cor, and11, and10, and01, and00, sel0, sel1, hxf, hxa, hxb, hxc, hyf, hya, hyb, hyd]
        simp only [z0_eq, o1_eq]
        simp only [← EReal.coe_zero, ← EReal.coe_one, ← EReal.coe_sub, ← EReal.coe_mul, ← EReal.coe_add, EReal.coe_eq_coe_iff]
        ring
    · refine ⟨0, 1 - g, 0, -1, by simp [hyu0], by simp [hyu1], by simp [hyd0], by simp [hyd1], fun c0 c1 c2 c3 => ⟨?_, ?_, ?_⟩⟩
      · simp only [sA, q00, q01, q10, q11, at2, cor, and11, and10, and01, and00, sel0, sel1, hxf, hxa, hxb, hxc, hyf, hya, hyb, hyc]
        simp only [z0_eq, o1_eq]
        simp only [← EReal.coe_zero, ← EReal.coe_one, ← EReal.coe_sub, ← EReal.coe_mul, ← EReal.coe_add, EReal.coe_eq_coe_iff]
        ring
      · simp only [sX, q00, q01, q10, q11, at2, cor, and11, and10, and01, and00, sel0, sel1, hxf, hxa, hxb, hxc, hyf, hya, hyb, hyc]
        simp only [z0_eq, o1_eq]
        simp only [← EReal.coe_zero, ← EReal.coe_one, ← EReal.coe_sub, ← EReal.coe_mul, ← EReal.coe_add, EReal.coe_eq_coe_iff]
        ring
      · simp only [sY, q00, q01, q10, q11, at2, cor, and11, and10, and01, and00, sel0, sel1, hxf, hxa, hxb, hxc, hyf, hya, hyb, hyc]
        simp only [z0_eq, o1_eq]
        simp only [← EReal.coe_zero, ← EReal.coe_one, ← EReal.coe_sub, ← EReal.coe_mul, ← EReal.coe_add, EReal.coe_eq_coe_iff]
        ring

end Cert.Point
end
-- ==== Proof.Join.lean ====
/-
  One sample of one level: the reference's weighted sums over the channels are the kernel's combinations of inner products.
-/
module

public import proofs.«01_k».proof.Proof.Point
public import proofs.«01_k».proof.Proof.Lin

@[expose] public section
noncomputable section
open Idealize.ShloMosaic
namespace Cert.Join
open Cert.Terms Cert.RefRead Cert.Axis Cert.Point Cert.Lin

variable (w Mx x v My y : EReal) (hx : Case w Mx x) (hy : Case v My y)
variable (s a : EReal) (g k0 k1 k2 k3 : Fin 32 → EReal) (gs : EReal)
variable (hg : ∀ d, ∃ r : ℝ, g d = r) (hs : ∃ r : ℝ, gs = r)
variable (h0 : ∀ d, ∃ r : ℝ, k0 d = r) (h1 : ∀ d, ∃ r : ℝ, k1 d = r) (h2 : ∀ d, ∃ r : ℝ, k2 d = r) (h3 : ∀ d, ∃ r : ℝ, k3 d = r)

include hx hy hg hs h0 h1 h2 h3

/-- The attention weight's gradient. -/
theorem attn_eq : mu s (∑ d : Fin 32, mu (mu (g d) gs) (sA w v x y (k0 d) (k1 d) (k2 d) (k3 d)))
    = pAttn Mx My x y s (dotE k0 g gs) (dotE k1 g gs) (dotE k2 g gs) (dotE k3 g gs) := by
  choose g' hg using hg
  choose k0' h0 using h0
  choose k1' h1 using h1
  choose k2' h2 using h2
  choose k3' h3 using h3
  obtain ⟨gs', rfl⟩ := hs
  obtain rfl : g = fun d => (g' d : EReal) := funext hg
  obtain rfl : k0 = fun d => (k0' d : EReal) := funext h0
  obtain rfl : k1 = fun d => (k1' d : EReal) := funext h1
  obtain rfl : k2 = fun d => (k2' d : EReal) := funext h2
  obtain rfl : k3 = fun d => (k3' d : EReal) := funext h3
  obtain ⟨u0, u1, d0, d1, e1, e2, e3, e4, t0, t1, f0, f1, e5, e6, e7, e8, he⟩ := point w Mx x v My y hx hy
  rw [Finset.sum_congr rfl fun d _ => congrArg (mu _) (he (k0' d) (k1' d) (k2' d) (k3' d)).1, lin]
  unfold pAttn
  rw [e1, e2, e5, e6]

/-- The gradient of the horizontal position. -/
theorem x_eq (W : EReal) : mu (mu (mu s (∑ d : Fin 32, mu (mu (g d) gs) (sX w v x y (k0 d) (k1 d) (k2 d) (k3 d)))) a) W
    = pX Mx My x y s a W (dotE k0 g gs) (dotE k1 g gs) (dotE k2 g gs) (dotE k3 g gs) := by
  choose g' hg using hg
  choose k0' h0 using h0
  choose k1' h1 using h1
  choose k2' h2 using h2
  choose k3' h3 using h3
  obtain ⟨gs', rfl⟩ := hs
  obtain rfl : g = fun d => (g' d : EReal) := funext hg
  obtain rfl : k0 = fun d => (k0' d : EReal) := funext h0
  obtain rfl : k1 = fun d => (k1' d : EReal) := funext h1
  obtain rfl : k2 = fun d => (k2' d : EReal) := funext h2
  obtain rfl : k3 = fun d => (k3' d : EReal) := funext h3
  obtain ⟨u0, u1, d0, d1, e1, e2, e3, e4, t0, t1, f0, f1, e5, e6, e7, e8, he⟩ := point w Mx x v My y hx hy
  rw [Finset.sum_congr rfl fun d _ => congrArg (mu _) (he (k0' d) (k1' d) (k2' d) (k3' d)).2.1, lin]
  unfold pX
  rw [e3, e4, e5, e6]

/-- The gradient of the vertical position. -/
theorem y_eq (H : EReal) : mu (mu (mu s (∑ d : Fin 32, mu (mu (g d) gs) (sY w v x y (k0 d) (k1 d) (k2 d) (k3 d)))) a) H
    = pY Mx My x y s a H (dotE k0 g gs) (dotE k1 g gs) (dotE k2 g gs) (dotE k3 g gs) := by
  choose g' hg using hg
  choose k0' h0 using h0
  choose k1' h1 using h1
  choose k2' h2 using h2
  choose k3' h3 using h3
  obtain ⟨gs', rfl⟩ := hs
  obtain rfl : g = fun d => (g' d : EReal) := funext hg
  obtain rfl : k0 = fun d => (k0' d : EReal) := funext h0
  obtain rfl : k1 = fun d => (k1' d : EReal) := funext h1
  obtain rfl : k2 = fun d => (k2' d : EReal) := funext h2
  obtain rfl : k3 = fun d => (k3' d : EReal) := funext h3
  obtain ⟨u0, u1, d0, d1, e1, e2, e3, e4, t0, t1, f0, f1, e5, e6, e7, e8, he⟩ := point w Mx x v My y hx hy
  rw [Finset.sum_congr rfl fun d _ => congrArg (mu _) (he (k0' d) (k1' d) (k2' d) (k3' d)).2.2, lin]
  unfold pY
  rw [e1, e2, e7, e8]

end Cert.Join
end
-- ==== Proof.RefFin.lean ====
/-
  The reference's two results as functions of the arrays the caller gives, where these are finite.
-/
module

public import proofs.«01_k».proof.Proof.Kern
public import proofs.«01_k».proof.Proof.RefRes
public import proofs.«01_k».proof.Proof.RefCodes
public import proofs.«01_k».proof.Proof.Join

@[expose] public section
set_option maxRecDepth 16384
noncomputable section
open Idealize.ShloMosaic Idealize.ShloMosaic.TcCoe Idealize.SL.Sem
namespace Cert.ReferenceIdeal.Fin
open Cert.ReferenceIdeal Cert.ReferenceIdeal.Gen Cert.ReferenceIdeal.Value Cert.ReferenceIdeal.Codes
open Cert.Terms Cert.RefRead Cert.Lin Cert.Byte Cert.Common Cert.Axis
open Cert.KernelIdeal.Final (cW cH cMx cMy)

variable (m : (ℓ : Loc nD τ sig) → Buf (Elt Ideal) ℓ) (c : Dev nD)
variable (b : Fin 6) (q : Fin 6144) (h : Fin 8) (l : Fin 3) (p : Fin 4)

/-- The arrays the caller gives. -/
abbrev ar0 : (⟨1, ![113246208]⟩ : Shape).Idx → BitVec 32 := m ((c.tc : Thread nD τ).loc main_arg0)
/-- The gradient codes the caller gives. -/
abbrev ar1 : (⟨4, ![48, 48, 32, 128]⟩ : Shape).Idx → EReal := m ((c.tc : Thread nD τ).loc main_arg1)
/-- The values' scales the caller gives. -/
abbrev ar2 : (⟨3, ![6, 3, 8]⟩ : Shape).Idx → EReal := m ((c.tc : Thread nD τ).loc main_arg2)
/-- The locations the caller gives. -/
abbrev ar3 : (⟨6, ![6, 6144, 8, 3, 4, 2]⟩ : Shape).Idx → EReal := m ((c.tc : Thread nD τ).loc main_arg3)
/-- The attention weights the caller gives. -/
abbrev ar4 : (⟨5, ![6, 6144, 8, 3, 4]⟩ : Shape).Idx → EReal := m ((c.tc : Thread nD τ).loc main_arg4)
/-- The gradient's scales the caller gives. -/
abbrev ar5 : (⟨2, ![6, 6144]⟩ : Shape).Idx → EReal := m ((c.tc : Thread nD τ).loc main_arg5)

/-- A query from its chunk and its lane. -/
theorem qq : (⟨(⟨q.val / 128, by omega⟩ : Fin 48).val * 128 + (⟨q.val % 128, by omega⟩ : Fin 128).val, by dsimp only; omega⟩ : Fin 6144) = q :=
  Fin.ext (by dsimp only; omega)

/-- A code of a corner, from the words. -/
theorem r4row (k : Fin 4) (d : Fin 32) :
    res_main_v4 (exitV m c) (i7 b q h l p k d) = row (ar0 m c) b q h (12 * k.val + 4 * l.val + p.val) (by omega) d := by
  have e := r4 b h l p (exitV m c) ⟨q.val / 128, by omega⟩ ⟨q.val % 128, by omega⟩ k ⟨d.val / 4, by omega⟩ ⟨d.val % 4, by omega⟩
  rw [qq q, show (⟨4 * (⟨d.val / 4, by omega⟩ : Fin 8).val + (⟨d.val % 4, by omega⟩ : Fin 4).val, by dsimp only; omega⟩ : Fin 32) = d from
    Fin.ext (by dsimp only; omega)] at e
  rw [e, exit_main_v1]
  unfold reg_main_v1
  rw [arr]
  unfold codes row
  have hrow : ((crow b ⟨q.val / 128, by omega⟩ h l p k ⟨d.val / 4, by omega⟩ ⟨d.val % 4, by omega⟩).val) / 4
      = (((((b.val * 8 + h.val) * 8 + d.val / 4) * 48 + q.val / 128) * 4 + k.val) * 3 + l.val) * 4 + p.val := by
    unfold crow; dsimp only; omega
  have hbyte : ((crow b ⟨q.val / 128, by omega⟩ h l p k ⟨d.val / 4, by omega⟩ ⟨d.val % 4, by omega⟩).val) % 4 = d.val % 4 := by
    unfold crow; dsimp only; omega
  refine congrArg₂ code ?_ hbyte
  refine (words m c _ _).trans (congrArg (ar0 m c) (congrArg ix1 (Fin.ext ?_)))
  show ((crow b ⟨q.val / 128, by omega⟩ h l p k ⟨d.val / 4, by omega⟩ ⟨d.val % 4, by omega⟩).val) / 4 * 128 + q.val % 128 = _
  rw [hrow]
  dsimp only
  omega

/-- A gradient code times its scale. -/
theorem r11grad (d : Fin 32) : res_main_v11 (exitV m c) (ix4 b q h d) = mu (grad (ar1 m c) b q h d) (ar5 m c (ix2 b q)) := by
  have e := r11 b h (exitV m c) ⟨q.val / 128, by omega⟩ ⟨q.val % 128, by omega⟩ d
  rw [qq q, exit_main_arg1, exit_main_arg5] at e
  exact e

/-- The widths and the widths less two are whole numbers. -/
theorem e_cst_W (l : Fin 3) : ∃ n : ℤ, 2 ≤ n ∧ cW l = e n ∧ cMx l = e (n - 2) := by
  match l with
  | 0 => exact ⟨160, by decide, by simp [cW, e, Ideal.ofBits, Ideal.ieee, -EReal.coe_mul]; norm_num, by simp [cMx, e, Ideal.ofBits, Ideal.ieee, -EReal.coe_mul]; norm_num⟩
  | 1 => exact ⟨80, by decide, by simp [cW, e, Ideal.ofBits, Ideal.ieee, -EReal.coe_mul]; norm_num, by simp [cMx, e, Ideal.ofBits, Ideal.ieee, -EReal.coe_mul]; norm_num⟩
  | 2 => exact ⟨40, by decide, by simp [cW, e, Ideal.ofBits, Ideal.ieee, -EReal.coe_mul]; norm_num, by simp [cMx, e, Ideal.ofBits, Ideal.ieee, -EReal.coe_mul]; norm_num⟩

/-- The heights and the heights less two are whole numbers. -/
theorem e_cst_H (l : Fin 3) : ∃ n : ℤ, 2 ≤ n ∧ cH l = e n ∧ cMy l = e (n - 2) := by
  match l with
  | 0 => exact ⟨96, by decide, by simp [cH, e, Ideal.ofBits, Ideal.ieee, -EReal.coe_mul]; norm_num, by simp [cMy, e, Ideal.ofBits, Ideal.ieee, -EReal.coe_mul]; norm_num⟩
  | 1 => exact ⟨48, by decide, by simp [cH, e, Ideal.ofBits, Ideal.ieee, -EReal.coe_mul]; norm_num, by simp [cMy, e, Ideal.ofBits, Ideal.ieee, -EReal.coe_mul]; norm_num⟩
  | 2 => exact ⟨24, by decide, by simp [cH, e, Ideal.ofBits, Ideal.ieee, -EReal.coe_mul]; norm_num, by simp [cMy, e, Ideal.ofBits, Ideal.ieee, -EReal.coe_mul]; norm_num⟩

/-- Every horizontal position falls in one of the four cases. -/
theorem caseX (l : Fin 3) (x : EReal) : Case (cW l) (cMx l) x := by
  obtain ⟨n, hn, h1, h2⟩ := e_cst_W l
  rw [h1, h2]
  exact case n hn x

/-- Every vertical position falls in one of the four cases. -/
theorem caseY (l : Fin 3) (y : EReal) : Case (cH l) (cMy l) y := by
  obtain ⟨n, hn, h1, h2⟩ := e_cst_H l
  rw [h1, h2]
  exact case n hn y

/-- The horizontal position. -/
theorem rX_eq : rX b q h l p (exitV m c) = sc (ar3 m c (i6 b q h l p (0 : Fin 2))) (cW l) := by
  unfold rX
  rw [exit_main_arg3]

/-- The vertical position. -/
theorem rY_eq : rY b q h l p (exitV m c) = sc (ar3 m c (i6 b q h l p (1 : Fin 2))) (cH l) := by
  unfold rY
  rw [exit_main_arg3]

/-- A row of codes is real where the words are. -/
theorem row_real (hc : ∀ i, ∀ k : Fin 4, ∃ r : ℝ, code (ar0 m c i) k.val = r) (n : Nat) (hn : n < 48) (d : Fin 32) :
    ∃ r : ℝ, row (ar0 m c) b q h n hn d = r := hc _ ⟨d.val % 4, by omega⟩

/-- The row of a corner, numbered from the corner's first row. -/
theorem row_eq (k : Fin 4) (n : Nat) (hn : n ≤ 36) (e : 12 * k.val = n) (d : Fin 32) :
    res_main_v4 (exitV m c) (i7 b q h l p k d) = row (ar0 m c) b q h (n + 4 * l.val + p.val) (by omega) d := by
  subst e
  exact r4row m c b q h l p k d

/-- The gradient of an attention weight. -/
theorem attn_res (hg : ∀ i, ∃ r : ℝ, ar1 m c i = r) (hs : ∃ r : ℝ, ar5 m c (ix2 b q) = r)
    (hc : ∀ i, ∀ k : Fin 4, ∃ r : ℝ, code (ar0 m c i) k.val = r) :
    (shapeCast S48x3x4x6144 (transpose S6x8x3x4x6144 [0, 2, 3, 4, 1] (mulf (broadcastInDim S6x6144x8x3x4 ![0, 1, 2, 3, 4] bcast_S6x1x8x3x1_S6x6144x8x3x4_0_1_2_3_4 (res_main_v195 (exitV m c))) (Host.dotGeneral (φ₁ := .f32) (φ₂ := .f32) dot_S6x6144x8x32_S6x6144x8x3x4x32_S6x6144x8x3x4_3_5_n_34_012_012 (some .fp32) (res_main_v11 (exitV m c)) (addf (addf (addf (mulf (mulf (res_main_v48 (exitV m c)) (res_main_v46 (exitV m c))) (res_main_v130 (exitV m c))) (mulf (mulf (res_main_v48 (exitV m c)) (res_main_v41 (exitV m c))) (res_main_v144 (exitV m c)))) (mulf (mulf (res_main_v44 (exitV m c)) (res_main_v46 (exitV m c))) (res_main_v158 (exitV m c)))) (mulf (mulf (res_main_v44 (exitV m c)) (res_main_v41 (exitV m c))) (res_main_v172 (exitV m c)))))) transposes_S6x6144x8x3x4_S6x8x3x4x6144_0_2_3_4_1) shapeCasts_S6x8x3x4x6144_S48x3x4x6144) (ix4 ⟨b.val * 8 + h.val, by omega⟩ l p q)
    = attn (ar0 m c) (ar1 m c) (ar2 m c) (ar3 m c) (ar5 m c) b q h l p := by
  rw [res4, exit_main_arg2, rX_eq, rY_eq]
  have h0 := row_eq m c b q h l p 0 0 (by decide) rfl
  have h1 := row_eq m c b q h l p 1 12 (by decide) rfl
  have h2 := row_eq m c b q h l p 2 24 (by decide) rfl
  have h3 := row_eq m c b q h l p 3 36 (by decide) rfl
  simp only [r11grad, h0, h1, h2, h3]
  exact Join.attn_eq _ _ _ _ _ _ (caseX l _) (caseY l _) _ (grad (ar1 m c) b q h) _ _ _ _ _ (fun d => hg _) hs
    (row_real m c b q h hc _ _) (row_real m c b q h hc _ _) (row_real m c b q h hc _ _) (row_real m c b q h hc _ _)

/-- The gradient of a position's first coordinate. -/
theorem locx_res (hg : ∀ i, ∃ r : ℝ, ar1 m c i = r) (hs : ∃ r : ℝ, ar5 m c (ix2 b q) = r)
    (hc : ∀ i, ∀ k : Fin 4, ∃ r : ℝ, code (ar0 m c i) k.val = r) :
    (shapeCast S48x3x4x2x6144 (transpose S6x8x3x4x2x6144 [0, 2, 3, 4, 5, 1] (concatenate S6x6144x8x3x4x2 5 [⟨S6x6144x8x3x4x1, (broadcastInDim S6x6144x8x3x4x1 ![0, 1, 2, 3, 4] bcast_S6x6144x8x3x4_S6x6144x8x3x4x1_0_1_2_3_4 (mulf (mulf (mulf (broadcastInDim S6x6144x8x3x4 ![0, 1, 2, 3, 4] bcast_S6x1x8x3x1_S6x6144x8x3x4_0_1_2_3_4 (res_main_v195 (exitV m c))) (Host.dotGeneral (φ₁ := .f32) (φ₂ := .f32) dot_S6x6144x8x32_S6x6144x8x3x4x32_S6x6144x8x3x4_3_5_n_34_012_012 (some .fp32) (res_main_v11 (exitV m c)) (addf (mulf (res_main_v48 (exitV m c)) (subf (res_main_v144 (exitV m c)) (res_main_v130 (exitV m c)))) (mulf (res_main_v44 (exitV m c)) (subf (res_main_v172 (exitV m c)) (res_main_v158 (exitV m c))))))) ((exitV m c) (Proc.devRef .tc main_arg4))) (id (res_main_v24 (exitV m c)))))⟩, ⟨S6x6144x8x3x4x1, (broadcastInDim S6x6144x8x3x4x1 ![0, 1, 2, 3, 4] bcast_S6x6144x8x3x4_S6x6144x8x3x4x1_0_1_2_3_4 (mulf (mulf (mulf (broadcastInDim S6x6144x8x3x4 ![0, 1, 2, 3, 4] bcast_S6x1x8x3x1_S6x6144x8x3x4_0_1_2_3_4 (res_main_v195 (exitV m c))) (Host.dotGeneral (φ₁ := .f32) (φ₂ := .f32) dot_S6x6144x8x32_S6x6144x8x3x4x32_S6x6144x8x3x4_3_5_n_34_012_012 (some .fp32) (res_main_v11 (exitV m c)) (addf (mulf (res_main_v46 (exitV m c)) (subf (res_main_v158 (exitV m c)) (res_main_v130 (exitV m c)))) (mulf (res_main_v41 (exitV m c)) (subf (res_main_v172 (exitV m c)) (res_main_v144 (exitV m c))))))) ((exitV m c) (Proc.devRef .tc main_arg4))) (id (res_main_v18 (exitV m c)))))⟩] concatenates_S6x6144x8x3x4x1_S6x6144x8x3x4x1_S6x6144x8x3x4x2_d5) transposes_S6x6144x8x3x4x2_S6x8x3x4x2x6144_0_2_3_4_5_1) shapeCasts_S6x8x3x4x2x6144_S48x3x4x2x6144) (ix5 ⟨b.val * 8 + h.val, by omega⟩ l p 0 q)
    = locx (ar0 m c) (ar1 m c) (ar2 m c) (ar3 m c) (ar4 m c) (ar5 m c) b q h l p := by
  rw [res5x, exit_main_arg2, exit_main_arg4, rX_eq, rY_eq]
  have h0 := row_eq m c b q h l p 0 0 (by decide) rfl
  have h1 := row_eq m c b q h l p 1 12 (by decide) rfl
  have h2 := row_eq m c b q h l p 2 24 (by decide) rfl
  have h3 := row_eq m c b q h l p 3 36 (by decide) rfl
  simp only [r11grad, h0, h1, h2, h3]
  exact Join.x_eq _ _ _ _ _ _ (caseX l _) (caseY l _) _ (ar4 m c (ix5 b q h l p)) (grad (ar1 m c) b q h) _ _ _ _ _ (fun d => hg _) hs
    (row_real m c b q h hc _ _) (row_real m c b q h hc _ _) (row_real m c b q h hc _ _) (row_real m c b q h hc _ _) (cW l)

/-- The gradient of a position's second coordinate. -/
theorem locy_res (hg : ∀ i, ∃ r : ℝ, ar1 m c i = r) (hs : ∃ r : ℝ, ar5 m c (ix2 b q) = r)
    (hc : ∀ i, ∀ k : Fin 4, ∃ r : ℝ, code (ar0 m c i) k.val = r) :
    (shapeCast S48x3x4x2x6144 (transpose S6x8x3x4x2x6144 [0, 2, 3, 4, 5, 1] (concatenate S6x6144x8x3x4x2 5 [⟨S6x6144x8x3x4x1, (broadcastInDim S6x6144x8x3x4x1 ![0, 1, 2, 3, 4] bcast_S6x6144x8x3x4_S6x6144x8x3x4x1_0_1_2_3_4 (mulf (mulf (mulf (broadcastInDim S6x6144x8x3x4 ![0, 1, 2, 3, 4] bcast_S6x1x8x3x1_S6x6144x8x3x4_0_1_2_3_4 (res_main_v195 (exitV m c))) (Host.dotGeneral (φ₁ := .f32) (φ₂ := .f32) dot_S6x6144x8x32_S6x6144x8x3x4x32_S6x6144x8x3x4_3_5_n_34_012_012 (some .fp32) (res_main_v11 (exitV m c)) (addf (mulf (res_main_v48 (exitV m c)) (subf (res_main_v144 (exitV m c)) (res_main_v130 (exitV m c)))) (mulf (res_main_v44 (exitV m c)) (subf (res_main_v172 (exitV m c)) (res_main_v158 (exitV m c))))))) ((exitV m c) (Proc.devRef .tc main_arg4))) (id (res_main_v24 (exitV m c)))))⟩, ⟨S6x6144x8x3x4x1, (broadcastInDim S6x6144x8x3x4x1 ![0, 1, 2, 3, 4] bcast_S6x6144x8x3x4_S6x6144x8x3x4x1_0_1_2_3_4 (mulf (mulf (mulf (broadcastInDim S6x6144x8x3x4 ![0, 1, 2, 3, 4] bcast_S6x1x8x3x1_S6x6144x8x3x4_0_1_2_3_4 (res_main_v195 (exitV m c))) (Host.dotGeneral (φ₁ := .f32) (φ₂ := .f32) dot_S6x6144x8x32_S6x6144x8x3x4x32_S6x6144x8x3x4_3_5_n_34_012_012 (some .fp32) (res_main_v11 (exitV m c)) (addf (mulf (res_main_v46 (exitV m c)) (subf (res_main_v158 (exitV m c)) (res_main_v130 (exitV m c)))) (mulf (res_main_v41 (exitV m c)) (subf (res_main_v172 (exitV m c)) (res_main_v144 (exitV m c))))))) ((exitV m c) (Proc.devRef .tc main_arg4))) (id (res_main_v18 (exitV m c)))))⟩] concatenates_S6x6144x8x3x4x1_S6x6144x8x3x4x1_S6x6144x8x3x4x2_d5) transposes_S6x6144x8x3x4x2_S6x8x3x4x2x6144_0_2_3_4_5_1) shapeCasts_S6x8x3x4x2x6144_S48x3x4x2x6144) (ix5 ⟨b.val * 8 + h.val, by omega⟩ l p 1 q)
    = locy (ar0 m c) (ar1 m c) (ar2 m c) (ar3 m c) (ar4 m c) (ar5 m c) b q h l p := by
  rw [res5y, exit_main_arg2, exit_main_arg4, rX_eq, rY_eq]
  have h0 := row_eq m c b q h l p 0 0 (by decide) rfl
  have h1 := row_eq m c b q h l p 1 12 (by decide) rfl
  have h2 := row_eq m c b q h l p 2 24 (by decide) rfl
  have h3 := row_eq m c b q h l p 3 36 (by decide) rfl
  simp only [r11grad, h0, h1, h2, h3]
  exact Join.y_eq _ _ _ _ _ _ (caseX l _) (caseY l _) _ (ar4 m c (ix5 b q h l p)) (grad (ar1 m c) b q h) _ _ _ _ _ (fun d => hg _) hs
    (row_real m c b q h hc _ _) (row_real m c b q h hc _ _) (row_real m c b q h hc _ _) (row_real m c b q h hc _ _) (cH l)

end Cert.ReferenceIdeal.Fin
end
-- ==== Proof.Same.lean ====
/-
  The two arrays of results: the kernel's are the reference's.
-/
module

public import proofs.«01_k».proof.Proof.RefFin

@[expose] public section
set_option maxRecDepth 16384
noncomputable section
open Idealize.ShloMosaic Idealize.ShloMosaic.TcCoe Idealize.SL.Sem
namespace Cert.ReferenceIdeal.Fin
open Cert.ReferenceIdeal Cert.ReferenceIdeal.Gen Cert.ReferenceIdeal.Value
open Cert.Byte Cert.Common

variable (m : (ℓ : Loc Cert.KernelIdeal.nD Cert.KernelIdeal.τ Cert.KernelIdeal.sig) → Buf (Elt Ideal) ℓ)
variable (m' : (ℓ : Loc nD τ sig) → Buf (Elt Ideal) ℓ) (c : Dev nD)

/-- The arrays the kernel's caller gives. -/
abbrev kr0 : (⟨1, ![113246208]⟩ : Shape).Idx → BitVec 32 := m ((c.tc : Thread Cert.KernelIdeal.nD Cert.KernelIdeal.τ).loc Cert.KernelIdeal.main_arg0)
/-- The gradient codes the kernel's caller gives. -/
abbrev kr1 : (⟨4, ![48, 48, 32, 128]⟩ : Shape).Idx → EReal := m ((c.tc : Thread Cert.KernelIdeal.nD Cert.KernelIdeal.τ).loc Cert.KernelIdeal.main_arg1)
/-- The values' scales the kernel's caller gives. -/
abbrev kr2 : (⟨3, ![6, 3, 8]⟩ : Shape).Idx → EReal := m ((c.tc : Thread Cert.KernelIdeal.nD Cert.KernelIdeal.τ).loc Cert.KernelIdeal.main_arg2)
/-- The locations the kernel's caller gives. -/
abbrev kr3 : (⟨6, ![6, 6144, 8, 3, 4, 2]⟩ : Shape).Idx → EReal := m ((c.tc : Thread Cert.KernelIdeal.nD Cert.KernelIdeal.τ).loc Cert.KernelIdeal.main_arg3)
/-- The attention weights the kernel's caller gives. -/
abbrev kr4 : (⟨5, ![6, 6144, 8, 3, 4]⟩ : Shape).Idx → EReal := m ((c.tc : Thread Cert.KernelIdeal.nD Cert.KernelIdeal.τ).loc Cert.KernelIdeal.main_arg4)
/-- The gradient's scales the kernel's caller gives. -/
abbrev kr5 : (⟨2, ![6, 6144]⟩ : Shape).Idx → EReal := m ((c.tc : Thread Cert.KernelIdeal.nD Cert.KernelIdeal.τ).loc Cert.KernelIdeal.main_arg5)

/-- Every index of the attention results, its first coordinate split into batch and head. -/
theorem ix4' (i : S48x3x4x6144.Idx) : ∃ (b : Fin 6) (h : Fin 8) (l : Fin 3) (p : Fin 4) (q : Fin 6144),
    i = ix4 (⟨b.val * 8 + h.val, by omega⟩ : Fin 48) l p q := by
  have h48 : (i 0).val < 48 := (i 0).isLt
  refine ⟨⟨(i 0).val / 8, by omega⟩, ⟨(i 0).val % 8, by omega⟩, i 1, i 2, i 3, ?_⟩
  funext a
  match a with
  | ⟨0, _⟩ => exact Fin.ext (show (i 0).val = (i 0).val / 8 * 8 + (i 0).val % 8 by omega)
  | ⟨1, _⟩ => rfl
  | ⟨2, _⟩ => rfl
  | ⟨3, _⟩ => rfl

/-- Every index of the position results, likewise. -/
theorem ix5' (i : S48x3x4x2x6144.Idx) : ∃ (b : Fin 6) (h : Fin 8) (l : Fin 3) (p : Fin 4) (k : Fin 2) (q : Fin 6144),
    i = ix5 (⟨b.val * 8 + h.val, by omega⟩ : Fin 48) l p k q := by
  have h48 : (i 0).val < 48 := (i 0).isLt
  refine ⟨⟨(i 0).val / 8, by omega⟩, ⟨(i 0).val % 8, by omega⟩, i 1, i 2, i 3, i 4, ?_⟩
  funext a
  match a with
  | ⟨0, _⟩ => exact Fin.ext (show (i 0).val = (i 0).val / 8 * 8 + (i 0).val % 8 by omega)
  | ⟨1, _⟩ => rfl
  | ⟨2, _⟩ => rfl
  | ⟨3, _⟩ => rfl
  | ⟨4, _⟩ => rfl

/-- The attention results. -/
theorem attn_all (e0 : ar0 m' c = kr0 m c) (e1 : ar1 m' c = kr1 m c) (e2 : ar2 m' c = kr2 m c) (e3 : ar3 m' c = kr3 m c)
    (e4 : ar4 m' c = kr4 m c) (e5 : ar5 m' c = kr5 m c)
    (hg : ∀ i, ∃ r : ℝ, kr1 m c i = r) (hs : ∀ i, ∃ r : ℝ, kr5 m c i = r) (hc : ∀ i, ∀ k : Fin 4, ∃ r : ℝ, code (kr0 m c i) k.val = r) :
    (shapeCast S48x3x4x6144 (transpose S6x8x3x4x6144 [0, 2, 3, 4, 1] (mulf (broadcastInDim S6x6144x8x3x4 ![0, 1, 2, 3, 4] bcast_S6x1x8x3x1_S6x6144x8x3x4_0_1_2_3_4 (res_main_v195 (exitV m' c))) (Host.dotGeneral (φ₁ := .f32) (φ₂ := .f32) dot_S6x6144x8x32_S6x6144x8x3x4x32_S6x6144x8x3x4_3_5_n_34_012_012 (some .fp32) (res_main_v11 (exitV m' c)) (addf (addf (addf (mulf (mulf (res_main_v48 (exitV m' c)) (res_main_v46 (exitV m' c))) (res_main_v130 (exitV m' c))) (mulf (mulf (res_main_v48 (exitV m' c)) (res_main_v41 (exitV m' c))) (res_main_v144 (exitV m' c)))) (mulf (mulf (res_main_v44 (exitV m' c)) (res_main_v46 (exitV m' c))) (res_main_v158 (exitV m' c)))) (mulf (mulf (res_main_v44 (exitV m' c)) (res_main_v41 (exitV m' c))) (res_main_v172 (exitV m' c)))))) transposes_S6x6144x8x3x4_S6x8x3x4x6144_0_2_3_4_1) shapeCasts_S6x8x3x4x6144_S48x3x4x6144)
      = (Cert.KernelIdeal.Gen.dats m 0 c).arrAt 7 Cert.KernelIdeal.cfg0.N := by
  funext i
  obtain ⟨b, h, l, p, q, rfl⟩ := ix4' i
  refine (attn_res m' c b q h l p (e1 ▸ hg) (e5 ▸ hs _) (e0 ▸ hc)).trans (Eq.trans ?_ (Cert.KernelIdeal.Final.attn_arr m c b q h l p).symm)
  rw [e0, e1, e2, e3, e5]

/-- The position results. -/
theorem loc_all (e0 : ar0 m' c = kr0 m c) (e1 : ar1 m' c = kr1 m c) (e2 : ar2 m' c = kr2 m c) (e3 : ar3 m' c = kr3 m c)
    (e4 : ar4 m' c = kr4 m c) (e5 : ar5 m' c = kr5 m c)
    (hg : ∀ i, ∃ r : ℝ, kr1 m c i = r) (hs : ∀ i, ∃ r : ℝ, kr5 m c i = r) (hc : ∀ i, ∀ k : Fin 4, ∃ r : ℝ, code (kr0 m c i) k.val = r) :
    (shapeCast S48x3x4x2x6144 (transpose S6x8x3x4x2x6144 [0, 2, 3, 4, 5, 1] (concatenate S6x6144x8x3x4x2 5 [⟨S6x6144x8x3x4x1, (broadcastInDim S6x6144x8x3x4x1 ![0, 1, 2, 3, 4] bcast_S6x6144x8x3x4_S6x6144x8x3x4x1_0_1_2_3_4 (mulf (mulf (mulf (broadcastInDim S6x6144x8x3x4 ![0, 1, 2, 3, 4] bcast_S6x1x8x3x1_S6x6144x8x3x4_0_1_2_3_4 (res_main_v195 (exitV m' c))) (Host.dotGeneral (φ₁ := .f32) (φ₂ := .f32) dot_S6x6144x8x32_S6x6144x8x3x4x32_S6x6144x8x3x4_3_5_n_34_012_012 (some .fp32) (res_main_v11 (exitV m' c)) (addf (mulf (res_main_v48 (exitV m' c)) (subf (res_main_v144 (exitV m' c)) (res_main_v130 (exitV m' c)))) (mulf (res_main_v44 (exitV m' c)) (subf (res_main_v172 (exitV m' c)) (res_main_v158 (exitV m' c))))))) ((exitV m' c) (Proc.devRef .tc main_arg4))) (id (res_main_v24 (exitV m' c)))))⟩, ⟨S6x6144x8x3x4x1, (broadcastInDim S6x6144x8x3x4x1 ![0, 1, 2, 3, 4] bcast_S6x6144x8x3x4_S6x6144x8x3x4x1_0_1_2_3_4 (mulf (mulf (mulf (broadcastInDim S6x6144x8x3x4 ![0, 1, 2, 3, 4] bcast_S6x1x8x3x1_S6x6144x8x3x4_0_1_2_3_4 (res_main_v195 (exitV m' c))) (Host.dotGeneral (φ₁ := .f32) (φ₂ := .f32) dot_S6x6144x8x32_S6x6144x8x3x4x32_S6x6144x8x3x4_3_5_n_34_012_012 (some .fp32) (res_main_v11 (exitV m' c)) (addf (mulf (res_main_v46 (exitV m' c)) (subf (res_main_v158 (exitV m' c)) (res_main_v130 (exitV m' c)))) (mulf (res_main_v41 (exitV m' c)) (subf (res_main_v172 (exitV m' c)) (res_main_v144 (exitV m' c))))))) ((exitV m' c) (Proc.devRef .tc main_arg4))) (id (res_main_v18 (exitV m' c)))))⟩] concatenates_S6x6144x8x3x4x1_S6x6144x8x3x4x1_S6x6144x8x3x4x2_d5) transposes_S6x6144x8x3x4x2_S6x8x3x4x2x6144_0_2_3_4_5_1) shapeCasts_S6x8x3x4x2x6144_S48x3x4x2x6144)
      = (Cert.KernelIdeal.Gen.dats m 0 c).arrAt 6 Cert.KernelIdeal.cfg0.N := by
  funext i
  obtain ⟨b, h, l, p, k, q, rfl⟩ := ix5' i
  match k with
  | 0 =>
    refine (locx_res m' c b q h l p (e1 ▸ hg) (e5 ▸ hs _) (e0 ▸ hc)).trans (Eq.trans ?_ (Cert.KernelIdeal.Final.locx_arr m c b q h l p).symm)
    rw [e0, e1, e2, e3, e4, e5]
  | 1 =>
    refine (locy_res m' c b q h l p (e1 ▸ hg) (e5 ▸ hs _) (e0 ▸ hc)).trans (Eq.trans ?_ (Cert.KernelIdeal.Final.locy_arr m c b q h l p).symm)
    rw [e0, e1, e2, e3, e4, e5]

end Cert.ReferenceIdeal.Fin
end
-- ==== Proof.Pre.lean ====
/-
  What the precondition says: each gradient code, each gradient scale and each byte of the code words is a real number.
-/
module

public import proofs.«01_k».proof.Proof.Gen.Pre_finite
public import proofs.«01_k».proof.Proof.Byte
public import Idealize.ShloMosaic.Lib.ReduceAll

@[expose] public section
noncomputable section
open Idealize.ShloMosaic
namespace Cert.Pre
open Cert.Pre_finite Cert.Byte

/-- A scalar's array has one index. -/
instance : Subsingleton S_.Idx := ⟨fun a b => funext fun i => i.elim0⟩

/-- A number whose absolute value is below infinity is real. -/
theorem real_of_abs (x : EReal) (h : max x (-x) < ⊤) : ∃ r : ℝ, x = r := by
  induction x using EReal.rec with
  | bot => simp at h
  | top => simp at h
  | coe r => exact ⟨r, rfl⟩

/-- The bf16 pattern of infinity. -/
theorem inf_bf16 : Ideal.ofBits .bf16 0x7F80#16 = ⊤ := by simp [Ideal.ofBits, Ideal.ieee]
/-- The f32 pattern of infinity. -/
theorem inf_f32 : Ideal.ofBits .f32 0x7F800000#32 = ⊤ := by simp [Ideal.ofBits, Ideal.ieee]

/-- A comparison that came out true. -/
theorem lt_of_cmp (x y : EReal) (h : Ideal.cmp .olt x y = 1#1) : x < y := by
  by_contra hc
  simp [Ideal.cmp, hc] at h

/-- An inequality of words that came out true. -/
theorem ne_of_cmp (x y : BitVec 32) (h : IntOp.cmpi .ne x y = 1#1) : x ≠ y := by
  intro hc
  simp [IntOp.cmpi, hc] at h

/-- An fp8 code is real unless its seven low bits are all set. -/
theorem real_of_bits (b : BitVec 8) (h : ¬ ((b.extractLsb' 3 4).toNat = 15 ∧ (b.extractLsb' 0 3).toNat = 7)) :
    ∃ r : ℝ, Ideal.ofBits .fp8e4m3 b = r := by
  show ∃ r : ℝ, Ideal.e4m3fn b = r
  unfold Ideal.e4m3fn
  simp only [if_neg h]
  split_ifs <;> exact ⟨_, rfl⟩

/-- The seven low bits of a byte whose code is not a number. -/
theorem bits_set (b : BitVec 8) (h : (b.extractLsb' 3 4).toNat = 15 ∧ (b.extractLsb' 0 3).toNat = 7) (i : Nat) (hi : i < 7) :
    b.getLsbD i = true := by
  have h1 : b.extractLsb' 3 4 = 15#4 := BitVec.eq_of_toNat_eq h.1
  have h2 : b.extractLsb' 0 3 = 7#3 := BitVec.eq_of_toNat_eq h.2
  by_cases h3 : i < 3
  · have := congrArg (fun z => BitVec.getLsbD z i) h2
    simp only [BitVec.getLsbD_extractLsb', h3, decide_true, Bool.true_and, Nat.zero_add] at this
    rw [this]
    interval_cases i <;> rfl
  · have := congrArg (fun z => BitVec.getLsbD z (i - 3)) h1
    have h4 : i - 3 < 4 := by omega
    simp only [BitVec.getLsbD_extractLsb', h4, decide_true, Bool.true_and, show 3 + (i - 3) = i by omega] at this
    rw [this]
    interval_cases i <;> first | rfl | omega

/-- A byte's code is real when its seven low bits are not all set in the word. -/
theorem real_code (w : BitVec 32) (c : Nat) (mask : BitVec 32)
    (hm : ∀ j, j < 32 → mask.getLsbD j = true → 8 * c ≤ j ∧ j < 8 * c + 7) (h : w &&& mask ≠ mask) : ∃ r : ℝ, code w c = r := by
  apply real_of_bits
  intro hb
  apply h
  apply BitVec.eq_of_getLsbD_eq
  intro j hj
  rw [BitVec.getLsbD_and]
  by_cases hmj : mask.getLsbD j = true
  · obtain ⟨h1, h2⟩ := hm j hj hmj
    have := bits_set _ hb (j - 8 * c) (by omega)
    unfold byte at this
    simp only [BitVec.getLsbD_extractLsb', show 8 * c + (j - 8 * c) = j by omega, show j - 8 * c < 8 by omega, decide_true, Bool.true_and] at this
    rw [this, Bool.true_and]
  · simp only [Bool.not_eq_true] at hmj
    rw [hmj, Bool.and_false]

/-- The bits of the mask of byte 0 lie in that byte, below its sign. -/
theorem mask0 (j : Nat) (hj : j < 32) (h : (127#32).getLsbD j = true) : 8 * 0 ≤ j ∧ j < 8 * 0 + 7 := by
  revert h; interval_cases j <;> decide
/-- The bits of the mask of byte 1 lie in that byte, below its sign. -/
theorem mask1 (j : Nat) (hj : j < 32) (h : (32512#32).getLsbD j = true) : 8 * 1 ≤ j ∧ j < 8 * 1 + 7 := by
  revert h; interval_cases j <;> decide
/-- The bits of the mask of byte 2 lie in that byte, below its sign. -/
theorem mask2 (j : Nat) (hj : j < 32) (h : (8323072#32).getLsbD j = true) : 8 * 2 ≤ j ∧ j < 8 * 2 + 7 := by
  revert h; interval_cases j <;> decide
/-- The bits of the mask of byte 3 lie in that byte, below its sign. -/
theorem mask3 (j : Nat) (hj : j < 32) (h : (2130706432#32).getLsbD j = true) : 8 * 3 ≤ j ∧ j < 8 * 3 + 7 := by
  revert h; interval_cases j <;> decide

/-- The precondition, unpacked. -/
theorem unpack (a0 : IVec S113246208 32) (a1 : FVec Ideal S48x48x32x128 .bf16) (a2 : FVec Ideal S6x3x8 .f32)
    (a3 : FVec Ideal S6x6144x8x3x4x2 .f32) (a4 : FVec Ideal S6x6144x8x3x4 .f32) (a5 : FVec Ideal S6x6144 .f32)
    (h : fn (F := Ideal) a0 a1 a2 a3 a4 a5 = fun _ => 1#1) :
    (∀ i, ∃ r : ℝ, (a1 i : EReal) = r) ∧ (∀ i, ∃ r : ℝ, (a5 i : EReal) = r) ∧ ∀ i, ∀ c : Fin 4, ∃ r : ℝ, code (a0 i) c.val = r := by
  have h0 := congrFun h (Shape.Idx.first Facts.h_S_)
  unfold fn fn_part1 fn_part2 at h0
  obtain ⟨h0, e3⟩ := IntOp.andi_eq_one.1 h0
  obtain ⟨h0, e2⟩ := IntOp.andi_eq_one.1 h0
  obtain ⟨h0, e1⟩ := IntOp.andi_eq_one.1 h0
  obtain ⟨h0, e0⟩ := IntOp.andi_eq_one.1 h0
  obtain ⟨hg, hs⟩ := IntOp.andi_eq_one.1 h0
  refine ⟨fun i => ?_, fun i => ?_, fun i c => ?_⟩
  · have := Host.reduce_andi_all _ _ _ _ _ hg i
    refine real_of_abs _ ?_
    rw [← inf_bf16]
    exact lt_of_cmp _ _ this
  · have := Host.reduce_andi_all _ _ _ _ _ hs i
    refine real_of_abs _ ?_
    rw [← inf_f32]
    exact lt_of_cmp _ _ this
  · have k0 := ne_of_cmp _ _ (Host.reduce_andi_all _ _ _ _ _ e0 i)
    have k1 := ne_of_cmp _ _ (Host.reduce_andi_all _ _ _ _ _ e1 i)
    have k2 := ne_of_cmp _ _ (Host.reduce_andi_all _ _ _ _ _ e2 i)
    have k3 := ne_of_cmp _ _ (Host.reduce_andi_all _ _ _ _ _ e3 i)
    match c with
    | 0 => exact real_code _ 0 127#32 mask0 k0
    | 1 => exact real_code _ 1 32512#32 mask1 k1
    | 2 => exact real_code _ 2 8323072#32 mask2 k2
    | 3 => exact real_code _ 3 2130706432#32 mask3 k3

end Cert.Pre
end
-- ==== Proof.Repacked.lean ====
/-
  The gradient laid out by head: the array of decoded codes and the array of codes times scales, index by index.
-/
module

public import Idealize.ShloMosaic.Lib.Pipeline.Value
public import Idealize.ShloMosaic.Lib.Pointwise.Index
public import Idealize.ShloMosaic.PureOps.Ideal

@[expose] public section
set_option maxRecDepth 16384
noncomputable section
open Idealize.ShloMosaic Idealize.ShloMosaic.TcCoe Idealize.SL.Sem
namespace Cert.Repacked

/-- The code of a batch and head, a chunk of queries, a channel and a query of the chunk. -/
def at_ (x : (⟨3, ![6, 6144, 256]⟩ : Shape).Idx → EReal) (bh : Fin 48) (ck : Fin 48) (c : Fin 32) (ln : Fin 128) : EReal :=
  x (ix3 ⟨bh.val / 8, by omega⟩ ⟨ck.val * 128 + ln.val, by omega⟩ ⟨bh.val % 8 * 32 + c.val, by omega⟩)

/-- That code times its query's scale. -/
def mulAt (x : (⟨3, ![6, 6144, 256]⟩ : Shape).Idx → EReal) (s : (⟨2, ![6, 6144]⟩ : Shape).Idx → EReal)
    (bh : Fin 48) (ck : Fin 48) (c : Fin 32) (ln : Fin 128) : EReal :=
  at_ x bh ck c ln * s (ix2 ⟨bh.val / 8, by omega⟩ ⟨ck.val * 128 + ln.val, by omega⟩)

/-- The codes, laid out by head. -/
def codes (x : (⟨3, ![6, 6144, 256]⟩ : Shape).Idx → EReal) : (⟨4, ![48, 48, 32, 128]⟩ : Shape).Idx → EReal := fun i =>
  at_ x (i 0) (i 1) (i 2) (i 3)

/-- The codes times the scales, laid out by head. -/
def scaled (x : (⟨3, ![6, 6144, 256]⟩ : Shape).Idx → EReal) (s : (⟨2, ![6, 6144]⟩ : Shape).Idx → EReal) :
    (⟨4, ![48, 48, 32, 128]⟩ : Shape).Idx → EReal := fun i =>
  mulAt x s (i 0) (i 1) (i 2) (i 3)

end Cert.Repacked
end
-- ==== Proof.RepackKern.lean ====
/-
  What the kernel that repacks the gradient leaves in its two arrays.
-/
module

public import proofs.«01_k».proof.Proof.Repacked
public import proofs.«01_k».proof.Proof.Gen.RepackIdeal.Frame
public import Idealize.ShloMosaic.Lib.Pipeline.Value
public import Idealize.ShloMosaic.Lib.Pipeline.ValueKit.Geometry
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.RepackIdeal.Final
open Cert.RepackIdeal Cert.RepackIdeal.Gen
open Cert.Repacked

variable (m : (ℓ : Loc nD τ sig) → Buf (Elt Ideal) ℓ) (d : Dev nD)

/-- Which block of the codes a grid point has. -/
theorem idx0 : ∀ t : Fin grid0.N, win0_0.index t = ![t.val / 48, t.val % 48, 0] := by decide +kernel
/-- Which block of the scales a grid point has. -/
theorem idx1 : ∀ t : Fin grid0.N, win0_1.index t = ![t.val, 0, 0] := by decide +kernel
/-- Which block of the scaled gradient a grid point writes. -/
theorem idx2 : ∀ t : Fin grid0.N, win0_2.index t = ![t.val / 48, t.val % 48, 0, 0] := by decide +kernel
/-- Which block of the unscaled codes a grid point writes. -/
theorem idx3 : ∀ t : Fin grid0.N, win0_3.index t = ![t.val / 48, t.val % 48, 0, 0] := by decide +kernel

/-- The batch of a grid point. -/
abbrev bOf (t : Fin grid0.N) : Fin 6 := ⟨t.val / 48, by have : t.val < 288 := t.isLt; omega⟩
/-- The chunk of queries of a grid point. -/
abbrev ckOf (t : Fin grid0.N) : Fin 48 := ⟨t.val % 48, by omega⟩
/-- A head of the grid point's batch. -/
abbrev bhOf (t : Fin grid0.N) (h : Fin 8) : Fin 48 := ⟨t.val / 48 * 8 + h.val, by have : t.val < 288 := t.isLt; omega⟩
/-- A query of the grid point's chunk. -/
abbrev qOf (t : Fin grid0.N) (q : Fin 128) : Fin 6144 := ⟨t.val % 48 * 128 + q.val, by omega⟩

/-- The codes of a grid point, read in the whole array. -/
theorem rd0 (t : Fin cfg0.N) (q : Fin 128) (c : Fin 256) :
    iblk m d 0 t (ix3 0 q c : S1x128x256.Idx) = V m d main_arg0 (ix3 (bOf t) (qOf t q) c : S6x6144x256.Idx) := by
  blk_ext [iblk, idx0 t]
/-- The scales of a grid point, read in the whole array. -/
theorem rd1 (t : Fin cfg0.N) (q : Fin 128) :
    iblk m d 1 t (ix3 0 0 q : S1x1x128.Idx) = V m d main_v0 (ix3 ⟨t.val, t.isLt⟩ 0 q : S288x1x128.Idx) := by
  blk_ext [iblk, idx1 t]

/-- The blocks of the scaled gradient cover their array. -/
theorem covers2 : win0_2.Covers := by decide +kernel
/-- The blocks of the unscaled codes cover their array. -/
theorem covers3 : win0_3.Covers := by decide +kernel

/-- An index of the scaled block, placed in the whole array. -/
theorem emb2 (t : Fin cfg0.N) (h : Fin 8) (c : Fin 32) (q : Fin 128) :
    (((cfg0.win 2).blk t).view.emb (ix4 h 0 c q : S8x1x32x128.Idx) : S48x48x32x128.Idx) = ix4 (bhOf t h) (ckOf t) c q := by
  blk_ext [idx2 t]
/-- An index of the unscaled block, placed in the whole array. -/
theorem emb3 (t : Fin cfg0.N) (h : Fin 8) (c : Fin 32) (q : Fin 128) :
    (((cfg0.win 3).blk t).view.emb (ix4 h 0 c q : S8x1x32x128.Idx) : S48x48x32x128.Idx) = ix4 (bhOf t h) (ckOf t) c q := by
  blk_ext [idx3 t]

/-- The codes are the caller's. -/
theorem en0 : V m d main_arg0 = m ((d.tc : Thread nD τ).loc main_arg0) := V_main_arg0 m d

/-- A chunk's scale is the caller's scale of that query. -/
theorem en1 (t : Fin cfg0.N) (q : Fin 128) :
    V m d main_v0 (ix3 ⟨t.val, t.isLt⟩ 0 q : S288x1x128.Idx) = m ((d.tc : Thread nD τ).loc main_arg1) (ix2 (bOf t) (qOf t q) : S6x6144.Idx) := by
  entry_read
  refine shapeCast_apply (s := S6x6144) (t := S288x1x128) _ _ _ _ ?_
  rw [Shape.rowMajor_val_two, Shape.rowMajor_val_three]
  show t.val / 48 * 6144 + (t.val % 48 * 128 + q.val) = (t.val * 1 + 0) * 128 + q.val
  omega

/-- Every index of a block. -/
theorem ix_ (y : S8x1x32x128.Idx) : ∃ (h : Fin 8) (c : Fin 32) (q : Fin 128), y = ix4 h 0 c q :=
  ⟨y 0, y 2, y 3, by funext a; match a with | ⟨0, _⟩ => rfl | ⟨1, _⟩ => exact Fin.ext (by have : (y 1).val < 1 := (y 1).isLt; show (y 1).val = 0; omega) | ⟨2, _⟩ => rfl | ⟨3, _⟩ => rfl⟩

/-- The rows of heads and channels split, read at a head, a channel and a query. -/
theorem split {α : Type} (x : S256x128.Idx → α) (h1) (h2) (h : Fin 8) (c : Fin 32) (q : Fin 128) :
    shapeCast S8x1x32x128 (shapeCast (s := S256x128) S8x32x128 x h1) h2 (ix4 h 0 c q) = x (ix2 ⟨h.val * 32 + c.val, by omega⟩ q) := by
  rw [shapeCast_apply _ h2 _ (ix3 h c q) (by
    rw [Shape.rowMajor_val_three, Shape.rowMajor_val_four]
    show (h.val * 32 + c.val) * 128 + q.val = ((h.val * 1 + 0) * 32 + c.val) * 128 + q.val
    omega)]
  exact shapeCast_apply x h1 _ _ (by
    rw [Shape.rowMajor_val_three, Shape.rowMajor_val_two]
    rfl)

/-- The block of codes turned, read at a row of heads and channels and a query. -/
theorem turned (x : Vec Ideal S1x128x256 .fp8e5m2) (r : Fin 256) (q : Fin 128) :
    k0_pay1 x (ix2 r q) = x (ix3 0 q r : S1x128x256.Idx) := by
  unfold k0_pay1
  rw [transpose_apply _ _ _ (ix2 r q) (ix2 q r : S128x256.Idx) (fun a => match a with | ⟨0, _⟩ => rfl | ⟨1, _⟩ => rfl)]
  exact shapeCast_apply (s := S1x128x256) (t := S128x256) x _ _ _ (by
    rw [Shape.rowMajor_val_three, Shape.rowMajor_val_two]
    show (0 * 128 + q.val) * 256 + r.val = q.val * 256 + r.val
    omega)

/-- The block of scales spread over the rows. -/
theorem spread {α : Type} (x : S1x1x128.Idx → α) (h1) (h2) (h3) (r : Fin 256) (q : Fin 128) :
    broadcastTo S256x128 (shapeCast S1x128 (shapeCast (s := S1x1x128) S128 x h1) h2) h3 (ix2 r q) = x (ix3 0 0 q) := by
  rw [broadcastTo_apply _ h3 (ix2 r q) (ix2 0 q : S1x128.Idx) (fun a => match a with | ⟨0, _⟩ => rfl | ⟨1, _⟩ => rfl)]
  rw [shapeCast_apply _ h2 _ (ix1 q : S128.Idx) (by
    rw [Shape.rowMajor_val_one, Shape.rowMajor_val_two]
    show q.val = 0 * 128 + q.val
    omega)]
  exact shapeCast_apply x h1 _ _ (by
    rw [Shape.rowMajor_val_three, Shape.rowMajor_val_one]
    show (0 * 1 + 0) * 128 + q.val = q.val
    omega)

/-- A block of unscaled codes, of the codes it is computed from. -/
theorem out3 (x0 : Vec Ideal S1x128x256 .fp8e5m2) (x1 : Vec Ideal S1x1x128 .f32) (h : Fin 8) (c : Fin 32) (q : Fin 128) :
    out0_3 x0 x1 (ix4 h 0 c q) = x0 (ix3 0 q ⟨h.val * 32 + c.val, by omega⟩ : S1x128x256.Idx) := by
  unfold out0_3
  rw [View.canon_cons_unit_lit _ _ _ (by decide), View.ld_unit_lit _ _ (by decide)]
  unfold k0_pay3
  refine (split _ _ _ h c q).trans ?_
  exact turned x0 _ q

/-- A block of the scaled gradient, of the codes and scales it is computed from. -/
theorem out2 (x0 : Vec Ideal S1x128x256 .fp8e5m2) (x1 : Vec Ideal S1x1x128 .f32) (h : Fin 8) (c : Fin 32) (q : Fin 128) (u v : EReal)
    (hu : x0 (ix3 0 q ⟨h.val * 32 + c.val, by omega⟩ : S1x128x256.Idx) = u) (hv : x1 (ix3 0 0 q : S1x1x128.Idx) = v) :
    out0_2 x0 x1 (ix4 h 0 c q) = u * v := by
  subst hu hv
  unfold out0_2
  rw [View.canon_cons_unit_lit _ _ _ (by decide), View.ld_unit_lit _ _ (by decide), View.ld_unit_lit _ _ (by decide)]
  unfold k0_pay2
  refine (split _ _ _ h c q).trans ?_
  exact congrArg₂ (fun a b : EReal => a * b) (turned x0 _ q) (spread x1 _ _ _ _ q)

/-- A grid point's unscaled block is its part of the codes laid out by head. -/
theorem blk3 (t : Fin cfg0.N) (h : Fin 8) (c : Fin 32) (q : Fin 128) :
    out0_3 (iblk m d 0 t) (iblk m d 1 t) (ix4 h 0 c q)
      = at_ (m ((d.tc : Thread nD τ).loc main_arg0)) (bhOf t h) (ckOf t) c q := by
  rw [out3, rd0, en0]
  unfold at_
  refine congrArg _ (funext fun a => ?_)
  match a with
  | ⟨0, _⟩ => exact Fin.ext (show t.val / 48 = (t.val / 48 * 8 + h.val) / 8 by omega)
  | ⟨1, _⟩ => rfl
  | ⟨2, _⟩ => exact Fin.ext (show h.val * 32 + c.val = (t.val / 48 * 8 + h.val) % 8 * 32 + c.val by omega)

/-- A grid point's scaled block is its part of the scaled gradient laid out by head. -/
theorem blk2 (t : Fin cfg0.N) (h : Fin 8) (c : Fin 32) (q : Fin 128) :
    out0_2 (iblk m d 0 t) (iblk m d 1 t) (ix4 h 0 c q)
      = mulAt (m ((d.tc : Thread nD τ).loc main_arg0)) (m ((d.tc : Thread nD τ).loc main_arg1)) (bhOf t h) (ckOf t) c q := by
  refine out2 _ _ h c q _ _ ?_ ?_
  · exact (out3 _ (iblk m d 1 t) h c q).symm.trans (blk3 m d t h c q)
  · rw [rd1, en1]
    refine congrArg _ (funext fun a => ?_)
    match a with
    | ⟨0, _⟩ => exact Fin.ext (show t.val / 48 = (t.val / 48 * 8 + h.val) / 8 by omega)
    | ⟨1, _⟩ => rfl

/-- The array of unscaled codes after the run. -/
theorem arr3 : (dats m 0 d).arrAt 3 cfg0.N = codes (m ((d.tc : Thread nD τ).loc main_arg0)) := by
  refine (dats m 0 d).arrAt_eq_of_covers 3 _ covers3 fun t hf y => ?_
  blk_simp
  rw [after0_3]
  obtain ⟨h, c, q, rfl⟩ := ix_ y
  refine (blk3 m d t h c q).trans ?_
  exact (congrArg (codes (m ((d.tc : Thread nD τ).loc main_arg0))) (emb3 t h c q)).symm

/-- The array of the scaled gradient after the run. -/
theorem arr2 : (dats m 0 d).arrAt 2 cfg0.N = scaled (m ((d.tc : Thread nD τ).loc main_arg0)) (m ((d.tc : Thread nD τ).loc main_arg1)) := by
  refine (dats m 0 d).arrAt_eq_of_covers 2 _ covers2 fun t hf y => ?_
  blk_simp
  rw [after0_2]
  obtain ⟨h, c, q, rfl⟩ := ix_ y
  refine (blk2 m d t h c q).trans ?_
  exact (congrArg (scaled (m ((d.tc : Thread nD τ).loc main_arg0)) (m ((d.tc : Thread nD τ).loc main_arg1))) (emb2 t h c q)).symm

/-- From any memory the run ends with the two arrays as above and the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v1_0) = scaled (m ((c.tc : Thread nD τ).loc main_arg0)) (m ((c.tc : Thread nD τ).loc main_arg1))
      ∧ r.2.mem ((c.tc : Thread nD τ).loc main_v1_1) = codes (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (arr2 m c), ((h c).1 3).trans (arr3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.RepackIdeal.Final
end
-- ==== Proof.RepackRef.lean ====
/-
  What the reference of the repacked gradient computes.
-/
module

public import proofs.«01_k».proof.Proof.Repacked
public import proofs.«01_k».proof.Proof.Gen.RepackReferenceIdeal.Run
public import Idealize.ShloMosaic.Lib.Pipeline.ValueKit.Geometry
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.RepackReferenceIdeal.Final
open Cert.RepackReferenceIdeal Cert.RepackReferenceIdeal.Gen Cert.RepackReferenceIdeal.Value
open Cert.Repacked

variable (m : (ℓ : Loc nD τ sig) → Buf (Elt Ideal) ℓ) (d : Dev nD)

/-- What the body stores: the codes it reads, as numbers. -/
theorem out (w : Vec Ideal S6x6144x256 .fp8e5m2) : out0_1 w = (w : S6x6144x256.Idx → EReal) := by
  unfold out0_1
  rw [View.canon_cons_unit_lit _ _ _ (by decide), View.ld_unit_lit _ _ (by decide)]
  rfl

/-- The one grid point has the whole array of codes. -/
theorem idx0 : ∀ t : Fin grid0.N, win0_0.index t = ![0, 0, 0] := by decide +kernel
/-- The block the body reads is the whole array of codes. -/
theorem rd0 (t : Fin cfg0.N) (a : Fin 6) (q : Fin 6144) (c : Fin 256) :
    iblk m d 0 t (ix3 a q c : S6x6144x256.Idx) = V m d main_arg0 (ix3 a q c : S6x6144x256.Idx) := by
  blk_ext [iblk, idx0 t]

/-- The region's one grid point. -/
def t0 : Fin cfg0.N := ⟨0, by decide⟩
/-- At it the whole array is written back. -/
theorem whole : (cfg0.win 1).WholeAt t0 := by decide +kernel

/-- The whole block. -/
theorem blk_eq : out0_1 (iblk m d 0 t0) = (m ((d.tc : Thread nD τ).loc main_arg0) : S6x6144x256.Idx → EReal) := by
  rw [out]
  funext y
  obtain ⟨a, q, c, rfl⟩ : ∃ (a : Fin 6) (q : Fin 6144) (c : Fin 256), y = ix3 a q c :=
    ⟨y 0, y 1, y 2, by funext a; match a with | ⟨0, _⟩ => rfl | ⟨1, _⟩ => rfl | ⟨2, _⟩ => rfl⟩
  rw [rd0, V_main_arg0]

/-- The decoded codes after the region. -/
theorem arr : reg_main_v0 m d = (m ((d.tc : Thread nD τ).loc main_arg0) : S6x6144x256.Idx → EReal) := by
  unfold reg_main_v0
  refine (dats m 0 d).arrAt_eq_of_after_last 1 t0 whole _ fun j => ?_
  rw [after0_1, blk_eq]
  generalize (m ((d.tc : Thread nD τ).loc main_arg0) : S6x6144x256.Idx → EReal) = G
  rfl

/-- The layout by head, read at a batch and head, a chunk, a channel and a query. -/
theorem lay {α : Type} (x : S6x6144x256.Idx → α) (h1) (h2) (h3) (bh : Fin 48) (ck : Fin 48) (c : Fin 32) (ln : Fin 128) :
    shapeCast S48x48x32x128 (transpose S6x8x48x32x128 [0, 3, 1, 4, 2] (shapeCast (s := S6x6144x256) S6x48x128x8x32 x h1) h2) h3
      (ix4 bh ck c ln) = x (ix3 ⟨bh.val / 8, by omega⟩ ⟨ck.val * 128 + ln.val, by omega⟩ ⟨bh.val % 8 * 32 + c.val, by omega⟩) := by
  rw [shapeCast_apply _ h3 _ (ix5 ⟨bh.val / 8, by omega⟩ ⟨bh.val % 8, by omega⟩ ck c ln) (by
    rw [Shape.rowMajor_val_five, Shape.rowMajor_val_four]
    show (((bh.val / 8 * 8 + bh.val % 8) * 48 + ck.val) * 32 + c.val) * 128 + ln.val = ((bh.val * 48 + ck.val) * 32 + c.val) * 128 + ln.val
    omega)]
  rw [transpose_apply _ _ h2 _ (ix5 ⟨bh.val / 8, by omega⟩ ck ln ⟨bh.val % 8, by omega⟩ c) (fun a => match a with
    | ⟨0, _⟩ => rfl | ⟨1, _⟩ => rfl | ⟨2, _⟩ => rfl | ⟨3, _⟩ => rfl | ⟨4, _⟩ => rfl)]
  exact shapeCast_apply x h1 _ _ (by
    rw [Shape.rowMajor_val_five, Shape.rowMajor_val_three]
    show (bh.val / 8 * 6144 + (ck.val * 128 + ln.val)) * 256 + (bh.val % 8 * 32 + c.val)
      = (((bh.val / 8 * 48 + ck.val) * 128 + ln.val) * 8 + bh.val % 8) * 32 + c.val
    omega)

/-- The scale, spread over the channels. -/
theorem sc {α : Type} (x : S6x6144.Idx → α) (h1) (h2) (b : Fin 6) (q : Fin 6144) (c : Fin 256) :
    broadcastInDim S6x6144x256 ![0, 1, 2] h1 (broadcastInDim (s := S6x6144) S6x6144x1 ![0, 1] h2 x) (ix3 b q c) = x (ix2 b q) := by
  rw [broadcastInDim_apply ![0, 1, 2] h1 _ (ix3 b q c) (ix3 b q 0) (fun a => match a with | ⟨0, _⟩ => rfl | ⟨1, _⟩ => rfl | ⟨2, _⟩ => rfl)]
  exact broadcastInDim_apply ![0, 1] h2 x _ (ix2 b q) (fun a => match a with | ⟨0, _⟩ => rfl | ⟨1, _⟩ => rfl)

/-- Every index of a result. -/
theorem ix (y : S48x48x32x128.Idx) : ∃ (bh : Fin 48) (ck : Fin 48) (c : Fin 32) (ln : Fin 128), y = ix4 bh ck c ln :=
  ⟨y 0, y 1, y 2, y 3, by funext a; match a with | ⟨0, _⟩ => rfl | ⟨1, _⟩ => rfl | ⟨2, _⟩ => rfl | ⟨3, _⟩ => rfl⟩

/-- The reference's unscaled codes, of the codes decoded. -/
theorem res10 (x : FVec Ideal S6x6144x256 .f32) (h0) (h1) (h2) (h3) :
    shapeCast S48x48x32x128 (transpose S6x8x48x32x128 [0, 3, 1, 4, 2] (shapeCast (s := S6x6144x256) S6x48x128x8x32 (truncf .bf16 x h0) h1) h2) h3
      = codes x := by
  funext y
  obtain ⟨bh, ck, c, ln, rfl⟩ := ix y
  rw [lay]
  rfl

/-- The reference's scaled gradient, of the codes decoded and the scales. -/
theorem res6 (x : FVec Ideal S6x6144x256 .f32) (s : FVec Ideal S6x6144 .f32) (h1) (h2) (h3) (h4) (h5) :
    shapeCast S48x48x32x128 (transpose S6x8x48x32x128 [0, 3, 1, 4, 2] (shapeCast (s := S6x6144x256) S6x48x128x8x32
      (mulf x (broadcastInDim S6x6144x256 ![0, 1, 2] h4 (broadcastInDim (s := S6x6144) S6x6144x1 ![0, 1] h5 s))) h1) h2) h3
      = scaled x s := by
  funext y
  obtain ⟨bh, ck, c, ln, rfl⟩ := ix y
  rw [lay]
  exact congrArg (fun u : EReal => x (ix3 ⟨bh.val / 8, by omega⟩ ⟨ck.val * 128 + ln.val, by omega⟩ ⟨bh.val % 8 * 32 + c.val, by omega⟩) * u)
    (sc s h4 h5 _ _ _)

end Cert.RepackReferenceIdeal.Final
end
-- ==== Proof.lean ====
/- The certificate: the frames are the generated ones, the value claim is put together from the two array equalities (Proof/Same.lean)
   and the unpacked precondition (Proof/Pre.lean); the repacked gradient's from Proof/RepackKern.lean and Proof/RepackRef.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Value
public import proofs.«01_k».proof.Proof.Gen.ReferenceIdeal.Run
public import proofs.«01_k».proof.Proof.Same
public import proofs.«01_k».proof.Proof.Pre
public import proofs.«01_k».proof.Proof.Gen.Repack
public import proofs.«01_k».proof.Proof.Gen.Repack.Frame
public import proofs.«01_k».proof.Proof.Gen.RepackIdeal
public import proofs.«01_k».proof.Proof.Gen.RepackIdeal.Frame
public import proofs.«01_k».proof.Proof.Gen.RepackReferenceIdeal
public import proofs.«01_k».proof.Proof.Gen.RepackReferenceIdeal.Frame
public import proofs.«01_k».proof.Proof.Gen.RepackReferenceIdeal.Run
public import proofs.«01_k».proof.Proof.RepackKern
public import proofs.«01_k».proof.Proof.RepackRef
public import Idealize.ShloMosaic.Adequacy
public import Idealize.ShloMosaic.Init

@[expose] public section

noncomputable section

namespace Cert.Proof

open Idealize.ShloMosaic Idealize.SL.Sem Cert.Kernel

/-- The kernel's two results are the reference's, where the precondition holds. -/
theorem same : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre heq
  refine ⟨fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  refine (θ_run Cert.ReferenceIdeal.defs _ _).mono (fun r h c => ?_) (Cert.ReferenceIdeal.Value.run m' g')
  obtain ⟨h0, h1, hrest⟩ := h c
  obtain ⟨e0, e1, e2, e3, e4, e5⟩ := heq c
  obtain ⟨hg, hs, hc⟩ := Cert.Pre.unpack _ _ _ _ _ _ (hpre c)
  exact ⟨h0.trans (Cert.ReferenceIdeal.Fin.loc_all m m' c e0 e1 e2 e3 e4 e5 hg hs hc),
    h1.trans (Cert.ReferenceIdeal.Fin.attn_all m m' c e0 e1 e2 e3 e4 e5 hg hs hc), hrest⟩

/-- The repacked gradient's two arrays are the reference's. -/
theorem sameRepack : Cert.algebraic_RepackIdeal_RepackReferenceIdeal (hRepackIdeal := Cert.RepackIdeal.Gen.facts)
    (hRepackReferenceIdeal := Cert.RepackReferenceIdeal.Gen.facts) := by
  intro m g m' g' _ heq
  refine ⟨fun c => Cert.Repacked.scaled (m ((c.tc : Thread Cert.RepackIdeal.nD Cert.RepackIdeal.τ).loc Cert.RepackIdeal.main_arg0))
      (m ((c.tc : Thread Cert.RepackIdeal.nD Cert.RepackIdeal.τ).loc Cert.RepackIdeal.main_arg1)),
    fun c => Cert.Repacked.codes (m ((c.tc : Thread Cert.RepackIdeal.nD Cert.RepackIdeal.τ).loc Cert.RepackIdeal.main_arg0)),
    Cert.RepackIdeal.Final.run m g, ?_⟩
  refine (θ_run Cert.RepackReferenceIdeal.defs _ _).mono (fun r h c => ?_) (Cert.RepackReferenceIdeal.Value.run m' g')
  obtain ⟨h0, h1, hrest⟩ := h c
  obtain ⟨e0, e1⟩ := heq c
  refine ⟨h0.trans ?_, h1.trans ?_, hrest⟩
  · rw [Cert.RepackReferenceIdeal.Final.arr, e0, e1]
    exact Cert.RepackReferenceIdeal.Final.res6 _ _ _ _ _ _ _
  · rw [Cert.RepackReferenceIdeal.Final.arr, e0]
    exact Cert.RepackReferenceIdeal.Final.res10 _ _ _ _ _

/-- All the claims of the certificate: the frames, the ideal kernels, and the equality of the results. -/
theorem claim : Cert.Claim := ⟨Cert.Kernel.Gen.facts, Cert.KernelIdeal.Gen.facts, Cert.ReferenceIdeal.Gen.facts,
  Cert.Repack.Gen.facts, Cert.RepackIdeal.Gen.facts, Cert.RepackReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  fun m ρ _ => Cert.Repack.Gen.frame m ρ, fun m ρ _ => Cert.RepackIdeal.Gen.frame m ρ, fun m ρ _ => Cert.RepackReferenceIdeal.Gen.frame m ρ,
  trivial, same, trivial, sameRepack⟩

end Cert.Proof

end
